-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v343) = v0 c
          ∧ r.2.mem ((c.tc : Thread Cert.ReferenceIdeal.nD Cert.ReferenceIdeal.τ).loc Cert.ReferenceIdeal.main_v338) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S256x197x768 : Shape := ⟨3, ![256, 197, 768]⟩
abbrev S768 : Shape := ⟨1, ![768]⟩
abbrev S10x64 : Shape := ⟨2, ![10, 64]⟩
abbrev S64 : Shape := ⟨1, ![64]⟩
abbrev S64x64 : Shape := ⟨2, ![64, 64]⟩
abbrev S768x64 : Shape := ⟨2, ![768, 64]⟩
abbrev S192x64 : Shape := ⟨2, ![192, 64]⟩
abbrev S192 : Shape := ⟨1, ![192]⟩
abbrev S64x128 : Shape := ⟨2, ![64, 128]⟩
abbrev S128 : Shape := ⟨1, ![128]⟩
abbrev S128x64 : Shape := ⟨2, ![128, 64]⟩
abbrev S64x768 : Shape := ⟨2, ![64, 768]⟩
abbrev S_ : Shape := ⟨0, ![]⟩

class Facts : Prop where
  bcast_S_S256x197x768 : S_.BroadcastsInDim S256x197x768 (![] : Fin 0 → Fin S256x197x768.rank)
  bcast_S_S768 : S_.BroadcastsInDim S768 (![] : Fin 0 → Fin S768.rank)
  bcast_S_S10x64 : S_.BroadcastsInDim S10x64 (![] : Fin 0 → Fin S10x64.rank)
  bcast_S_S64 : S_.BroadcastsInDim S64 (![] : Fin 0 → Fin S64.rank)
  bcast_S_S64x64 : S_.BroadcastsInDim S64x64 (![] : Fin 0 → Fin S64x64.rank)
  bcast_S_S768x64 : S_.BroadcastsInDim S768x64 (![] : Fin 0 → Fin S768x64.rank)
  bcast_S_S64x128 : S_.BroadcastsInDim S64x128 (![] : Fin 0 → Fin S64x128.rank)
  bcast_S_S128 : S_.BroadcastsInDim S128 (![] : Fin 0 → Fin S128.rank)
  bcast_S_S128x64 : S_.BroadcastsInDim S128x64 (![] : Fin 0 → Fin S128x64.rank)

variable [Facts]

def fn_part2 {F : FTy → Type} [FloatOps F] (main_arg18 : FVec F S64 .f32) (main_v2 : IVec S256x197x768 1) (main_v5 : IVec S768 1) (main_v8 : IVec S10x64 1) (main_v11 : IVec S64 1) (main_v14 : IVec S64x64 1) (main_v17 : IVec S768x64 1) (main_v20 : IVec S768x64 1) (main_v23 : IVec S64 1) (main_v26 : IVec S64 1) (main_v29 : IVec S64x128 1) (main_v32 : IVec S128 1) (main_v35 : IVec S128x64 1) : IVec S256x197x768 1 × IVec S768 1 × IVec S10x64 1 × IVec S64 1 × IVec S64x64 1 × IVec S768x64 1 × IVec S768x64 1 × IVec S64 1 × IVec S64 1 × IVec S64x128 1 × IVec S128 1 × IVec S128x64 1 × IVec S64 1 :=
  let main_v36 : FVec F S64 .f32 := Host.absf main_arg18
  let main_cst_11 : FVec F S_ .f32 := constant S_ .f32 0x7F800000#32
  let main_v37 : FVec F S64 .f32 := broadcastInDim S64 ![] bcast_S_S64 main_cst_11
  let main_v38 : IVec S64 1 := cmpf .olt main_v36 main_v37
  (main_v2, main_v5, main_v8, main_v11, main_v14, main_v17, main_v20, main_v23, main_v26, main_v29, main_v32, main_v35, main_v38)

def fn_part1 {F : FTy → Type} [FloatOps F] (main_arg8 : FVec F S768x64 .f32) (main_arg13 : FVec F S64 .f32) (main_arg14 : FVec F S64 .f32) (main_arg15 : FVec F S64x128 .f32) (main_arg16 : FVec F S128 .f32) (main_arg17 : FVec F S128x64 .f32) (main_arg18 : FVec F S64 .f32) (main_v2 : IVec S256x197x768 1) (main_v5 : IVec S768 1) (main_v8 : IVec S10x64 1) (main_v11 : IVec S64 1) (main_v14 : IVec S64x64 1) (main_v17 : IVec S768x64 1) : IVec S256x197x768 1 × IVec S768 1 × IVec S10x64 1 × IVec S64 1 × IVec S64x64 1 × IVec S768x64 1 × IVec S768x64 1 × IVec S64 1 × IVec S64 1 × IVec S64x128 1 × IVec S128 1 × IVec S128x64 1 × IVec S64 1 :=
  let main_v18 : FVec F S768x64 .f32 := Host.absf main_arg8
  let main_cst_5 : FVec F S_ .f32 := constant S_ .f32 0x7F800000#32
  let main_v19 : FVec F S768x64 .f32 := broadcastInDim S768x64 ![] bcast_S_S768x64 main_cst_5
  let main_v20 : IVec S768x64 1 := cmpf .olt main_v18 main_v19
  let main_v21 : FVec F S64 .f32 := Host.absf main_arg13
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_v24 : FVec F S64 .f32 := Host.absf main_arg14
  let main_cst_7 : FVec F S_ .f32 := constant S_ .f32 0x7F800000#32
  let main_v25 : FVec F S64 .f32 := broadcastInDim S64 ![] bcast_S_S64 main_cst_7
  let main_v26 : IVec S64 1 := cmpf .olt main_v24 main_v25
  let main_v27 : FVec F S64x128 .f32 := Host.absf main_arg15
  let main_cst_8 : FVec F S_ .f32 := constant S_ .f32 0x7F800000#32
  let main_v28 : FVec F S64x128 .f32 := broadcastInDim S64x128 ![] bcast_S_S64x128 main_cst_8
  let main_v29 : IVec S64x128 1 := cmpf .olt main_v27 main_v28
  let main_v30 : FVec F S128 .f32 := Host.absf main_arg16
  let main_cst_9 : FVec F S_ .f32 := constant S_ .f32 0x7F800000#32
  let main_v31 : FVec F S128 .f32 := broadcastInDim S128 ![] bcast_S_S128 main_cst_9
  let main_v32 : IVec S128 1 := cmpf .olt main_v30 main_v31
  let main_v33 : FVec F S128x64 .f32 := Host.absf main_arg17
  let main_cst_10 : FVec F S_ .f32 := constant S_ .f32 0x7F800000#32
  let main_v34 : FVec F S128x64 .f32 := broadcastInDim S128x64 ![] bcast_S_S128x64 main_cst_10
  let main_v35 : IVec S128x64 1 := cmpf .olt main_v33 main_v34
  fn_part2 (F := F) main_arg18 main_v2 main_v5 main_v8 main_v11 main_v14 main_v17 main_v20 main_v23 main_v26 main_v29 main_v32 main_v35

def fn {F : FTy → Type} [FloatOps F] (main_arg0 : FVec F S256x197x768 .f32) (main_arg1 : FVec F S768 .f32) (main_arg2 : FVec F S768 .f32) (main_arg3 : FVec F S10x64 .f32) (main_arg4 : FVec F S64 .f32) (main_arg5 : FVec F S64 .f32) (main_arg6 : FVec F S64x64 .f32) (main_arg7 : FVec F S768x64 .f32) (main_arg8 : FVec F S768x64 .f32) (main_arg9 : FVec F S192x64 .f32) (main_arg10 : FVec F S192x64 .f32) (main_arg11 : FVec F S192 .f32) (main_arg12 : FVec F S192 .f32) (main_arg13 : FVec F S64 .f32) (main_arg14 : FVec F S64 .f32) (main_arg15 : FVec F S64x128 .f32) (main_arg16 : FVec F S128 .f32) (main_arg17 : FVec F S128x64 .f32) (main_arg18 : FVec F S64 .f32) (main_arg19 : FVec F S64x768 .f32) (main_arg20 : FVec F S768 .f32) : IVec S256x197x768 1 × IVec S768 1 × IVec S10x64 1 × IVec S64 1 × IVec S64x64 1 × IVec S768x64 1 × IVec S768x64 1 × IVec S64 1 × IVec S64 1 × IVec S64x128 1 × IVec S128 1 × IVec S128x64 1 × IVec S64 1 :=
  let main_v0 : FVec F S256x197x768 .f32 := Host.absf main_arg0
  let main_cst : FVec F S_ .f32 := constant S_ .f32 0x7F800000#32
  let main_v1 : FVec F S256x197x768 .f32 := broadcastInDim S256x197x768 ![] bcast_S_S256x197x768 main_cst
  let main_v2 : IVec S256x197x768 1 := cmpf .olt main_v0 main_v1
  let main_v3 : FVec F S768 .f32 := Host.absf main_arg1
  let main_cst_0 : FVec F S_ .f32 := constant S_ .f32 0x7F800000#32
  let main_v4 : FVec F S768 .f32 := broadcastInDim S768 ![] bcast_S_S768 main_cst_0
  let main_v5 : IVec S768 1 := cmpf .olt main_v3 main_v4
  let main_v6 : FVec F S10x64 .f32 := Host.absf main_arg3
  let main_cst_1 : FVec F S_ .f32 := constant S_ .f32 0x7F800000#32
  let main_v7 : FVec F S10x64 .f32 := broadcastInDim S10x64 ![] bcast_S_S10x64 main_cst_1
  let main_v8 : IVec S10x64 1 := cmpf .olt main_v6 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64x64 .f32 := Host.absf main_arg6
  let main_cst_3 : FVec F S_ .f32 := constant S_ .f32 0x7F800000#32
  let main_v13 : FVec F S64x64 .f32 := broadcastInDim S64x64 ![] bcast_S_S64x64 main_cst_3
  let main_v14 : IVec S64x64 1 := cmpf .olt main_v12 main_v13
  let main_v15 : FVec F S768x64 .f32 := Host.absf main_arg7
  let main_cst_4 : FVec F S_ .f32 := constant S_ .f32 0x7F800000#32
  let main_v16 : FVec F S768x64 .f32 := broadcastInDim S768x64 ![] bcast_S_S768x64 main_cst_4
  let main_v17 : IVec S768x64 1 := cmpf .olt main_v15 main_v16
  fn_part1 (F := F) main_arg8 main_arg13 main_arg14 main_arg15 main_arg16 main_arg17 main_arg18 main_v2 main_v5 main_v8 main_v11 main_v14 main_v17
-- ==== Kernel.lean ====
abbrev S256x197x768 : Shape := ⟨3, ![256, 197, 768]⟩
abbrev S768 : Shape := ⟨1, ![768]⟩
abbrev S10x64 : Shape := ⟨2, ![10, 64]⟩
abbrev S64 : Shape := ⟨1, ![64]⟩
abbrev S64x64 : Shape := ⟨2, ![64, 64]⟩
abbrev S768x64 : Shape := ⟨2, ![768, 64]⟩
abbrev S192x64 : Shape := ⟨2, ![192, 64]⟩
abbrev S192 : Shape := ⟨1, ![192]⟩
abbrev S64x128 : Shape := ⟨2, ![64, 128]⟩
abbrev S128 : Shape := ⟨1, ![128]⟩
abbrev S128x64 : Shape := ⟨2, ![128, 64]⟩
abbrev S64x768 : Shape := ⟨2, ![64, 768]⟩
abbrev S768x128 : Shape := ⟨2, ![768, 128]⟩
abbrev S768x1 : Shape := ⟨2, ![768, 1]⟩
abbrev S1x128 : Shape := ⟨2, ![1, 128]⟩
abbrev S_ : Shape := ⟨0, ![]⟩
abbrev S64x1 : Shape := ⟨2, ![64, 1]⟩
abbrev S1x64 : Shape := ⟨2, ![1, 64]⟩
abbrev S192x128 : Shape := ⟨2, ![192, 128]⟩
abbrev S16x64 : Shape := ⟨2, ![16, 64]⟩
abbrev S1 : Shape := ⟨1, ![1]⟩
abbrev S1x16x1x64 : Shape := ⟨4, ![1, 16, 1, 64]⟩
abbrev S8x16x1x64 : Shape := ⟨4, ![8, 16, 1, 64]⟩
abbrev S1x192 : Shape := ⟨2, ![1, 192]⟩
abbrev S1x768 : Shape := ⟨2, ![1, 768]⟩
abbrev S256x10x768 : Shape := ⟨3, ![256, 10, 768]⟩
abbrev S256x10x64 : Shape := ⟨3, ![256, 10, 64]⟩
abbrev S8x197x768 : Shape := ⟨3, ![8, 197, 768]⟩
abbrev S8x10x768 : Shape := ⟨3, ![8, 10, 768]⟩
abbrev S8x10x64 : Shape := ⟨3, ![8, 10, 64]⟩
abbrev S8x197x128 : Shape := ⟨3, ![8, 197, 128]⟩
abbrev S1x197x768 : Shape := ⟨3, ![1, 197, 768]⟩
abbrev S197x768 : Shape := ⟨2, ![197, 768]⟩
abbrev S197 : Shape := ⟨1, ![197]⟩
abbrev S197x1 : Shape := ⟨2, ![197, 1]⟩
abbrev S197x128 : Shape := ⟨2, ![197, 128]⟩
abbrev S1x197x128 : Shape := ⟨3, ![1, 197, 128]⟩
abbrev S1x16x1 : Shape := ⟨3, ![1, 16, 1]⟩
abbrev S128x1 : Shape := ⟨2, ![128, 1]⟩
abbrev S128x128 : Shape := ⟨2, ![128, 128]⟩
abbrev S16x128 : Shape := ⟨2, ![16, 128]⟩
abbrev S16x197 : Shape := ⟨2, ![16, 197]⟩
abbrev S1x16x197 : Shape := ⟨3, ![1, 16, 197]⟩
abbrev S8x16x197 : Shape := ⟨3, ![8, 16, 197]⟩
abbrev S8x197 : Shape := ⟨2, ![8, 197]⟩
abbrev S8x1x197 : Shape := ⟨3, ![8, 1, 197]⟩
abbrev S8x16 : Shape := ⟨2, ![8, 16]⟩
abbrev S8x16x1 : Shape := ⟨3, ![8, 16, 1]⟩
abbrev S128x192 : Shape := ⟨2, ![128, 192]⟩
abbrev S128x768 : Shape := ⟨2, ![128, 768]⟩
abbrev S10x768 : Shape := ⟨2, ![10, 768]⟩
abbrev S1x10x768 : Shape := ⟨3, ![1, 10, 768]⟩
abbrev S1x10x64 : Shape := ⟨3, ![1, 10, 64]⟩

abbrev nBuf : Space → Nat
  | .hbm => 72
  | .vmem => 25
  | .smem => 0
  | _ => 0

abbrev bufTy : (tb : Table) → Fin (tcTables nBuf tb) → BufTy
  | .hbm, ⟨0, _⟩ => ⟨S256x197x768, .f32⟩
  | .hbm, ⟨1, _⟩ => ⟨S768, .f32⟩
  | .hbm, ⟨2, _⟩ => ⟨S768, .f32⟩
  | .hbm, ⟨3, _⟩ => ⟨S10x64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S768x64, .f32⟩
  | .hbm, ⟨8, _⟩ => ⟨S768x64, .f32⟩
  | .hbm, ⟨9, _⟩ => ⟨S192x64, .f32⟩
  | .hbm, ⟨10, _⟩ => ⟨S192x64, .f32⟩
  | .hbm, ⟨11, _⟩ => ⟨S192, .f32⟩
  | .hbm, ⟨12, _⟩ => ⟨S192, .f32⟩
  | .hbm, ⟨13, _⟩ => ⟨S64, .f32⟩
  | .hbm, ⟨14, _⟩ => ⟨S64, .f32⟩
  | .hbm, ⟨15, _⟩ => ⟨S64x128, .f32⟩
  | .hbm, ⟨16, _⟩ => ⟨S128, .f32⟩
  | .hbm, ⟨17, _⟩ => ⟨S128x64, .f32⟩
  | .hbm, ⟨18, _⟩ => ⟨S64, .f32⟩
  | .hbm, ⟨19, _⟩ => ⟨S64x768, .f32⟩
  | .hbm, ⟨20, _⟩ => ⟨S768, .f32⟩
  | .hbm, ⟨21, _⟩ => ⟨S768x128, .f32⟩
  | .hbm, ⟨22, _⟩ => ⟨S768x1, .f32⟩
  | .hbm, ⟨23, _⟩ => ⟨S768x128, .f32⟩
  | .hbm, ⟨24, _⟩ => ⟨S768x128, .f32⟩
  | .hbm, ⟨25, _⟩ => ⟨S768x128, .bf16⟩
  | .hbm, ⟨26, _⟩ => ⟨S128, .f32⟩
  | .hbm, ⟨27, _⟩ => ⟨S1x128, .f32⟩
  | .hbm, ⟨28, _⟩ => ⟨S128, .f32⟩
  | .hbm, ⟨29, _⟩ => ⟨S1x128, .f32⟩
  | .hbm, ⟨30, _⟩ => ⟨S_, .f32⟩
  | .hbm, ⟨31, _⟩ => ⟨S64x64, .f32⟩
  | .hbm, ⟨32, _⟩ => ⟨S64x64, .f32⟩
  | .hbm, ⟨33, _⟩ => ⟨S_, .f32⟩
  | .hbm, ⟨34, _⟩ => ⟨S64x64, .f32⟩
  | .hbm, ⟨35, _⟩ => ⟨S64x1, .f32⟩
  | .hbm, ⟨36, _⟩ => ⟨S64x64, .f32⟩
  | .hbm, ⟨37, _⟩ => ⟨S64x64, .f32⟩
  | .hbm, ⟨38, _⟩ => ⟨S64x128, .f32⟩
  | .hbm, ⟨39, _⟩ => ⟨S_, .f32⟩
  | .hbm, ⟨40, _⟩ => ⟨S1x64, .f32⟩
  | .hbm, ⟨41, _⟩ => ⟨S64, .f32⟩
  | .hbm, ⟨42, _⟩ => ⟨S1x64, .f32⟩
  | .hbm, ⟨43, _⟩ => ⟨S1x128, .f32⟩
  | .hbm, ⟨44, _⟩ => ⟨S64, .f32⟩
  | .hbm, ⟨45, _⟩ => ⟨S1x64, .f32⟩
  | .hbm, ⟨46, _⟩ => ⟨S1x128, .f32⟩
  | .hbm, ⟨47, _⟩ => ⟨S_, .f32⟩
  | .hbm, ⟨48, _⟩ => ⟨S192x64, .f32⟩
  | .hbm, ⟨49, _⟩ => ⟨S192x128, .f32⟩
  | .hbm, ⟨50, _⟩ => ⟨S64x1, .f32⟩
  | .hbm, ⟨51, _⟩ => ⟨S64x128, .f32⟩
  | .hbm, ⟨52, _⟩ => ⟨S64x128, .f32⟩
  | .hbm, ⟨53, _⟩ => ⟨S128, .f32⟩
  | .hbm, ⟨54, _⟩ => ⟨S1x128, .f32⟩
  | .hbm, ⟨55, _⟩ => ⟨S128, .f32⟩
  | .hbm, ⟨56, _⟩ => ⟨S128, .f32⟩
  | .hbm, ⟨57, _⟩ => ⟨S1x128, .f32⟩
  | .hbm, ⟨58, _⟩ => ⟨S_, .f32⟩
  | .hbm, ⟨59, _⟩ => ⟨S16x64, .f32⟩
  | .hbm, ⟨60, _⟩ => ⟨S_, .i32⟩
  | .hbm, ⟨61, _⟩ => ⟨S1, .i32⟩
  | .hbm, ⟨62, _⟩ => ⟨S16x64, .f32⟩
  | .hbm, ⟨63, _⟩ => ⟨S1x16x1x64, .f32⟩
  | .hbm, ⟨64, _⟩ => ⟨S8x16x1x64, .f32⟩
  | .hbm, ⟨65, _⟩ => ⟨S128x64, .f32⟩
  | .hbm, ⟨66, _⟩ => ⟨S1x192, .f32⟩
  | .hbm, ⟨67, _⟩ => ⟨S1x192, .f32⟩
  | .hbm, ⟨68, _⟩ => ⟨S1x64, .f32⟩
  | .hbm, ⟨69, _⟩ => ⟨S1x768, .f32⟩
  | .hbm, ⟨70, _⟩ => ⟨S256x10x768, .f32⟩
  | .hbm, ⟨71, _⟩ => ⟨S256x10x64, .f32⟩
  | .local _ .vmem, ⟨0, _⟩ => ⟨S8x197x768, .f32⟩
  | .local _ .vmem, ⟨1, _⟩ => ⟨S8x197x768, .f32⟩
  | .local _ .vmem, ⟨2, _⟩ => ⟨S768x128, .bf16⟩
  | .local _ .vmem, ⟨3, _⟩ => ⟨S1x128, .f32⟩
  | .local _ .vmem, ⟨4, _⟩ => ⟨S1x128, .f32⟩
  | .local _ .vmem, ⟨5, _⟩ => ⟨S128x64, .f32⟩
  | .local _ .vmem, ⟨6, _⟩ => ⟨S64x128, .f32⟩
  | .local _ .vmem, ⟨7, _⟩ => ⟨S1x128, .f32⟩
  | .local _ .vmem, ⟨8, _⟩ => ⟨S1x128, .f32⟩
  | .local _ .vmem, ⟨9, _⟩ => ⟨S192x128, .f32⟩
  | .local _ .vmem, ⟨10, _⟩ => ⟨S192x64, .f32⟩
  | .local _ .vmem, ⟨11, _⟩ => ⟨S1x192, .f32⟩
  | .local _ .vmem, ⟨12, _⟩ => ⟨S1x192, .f32⟩
  | .local _ .vmem, ⟨13, _⟩ => ⟨S64x128, .f32⟩
  | .local _ .vmem, ⟨14, _⟩ => ⟨S1x128, .f32⟩
  | .local _ .vmem, ⟨15, _⟩ => ⟨S1x128, .f32⟩
  | .local _ .vmem, ⟨16, _⟩ => ⟨S128x64, .f32⟩
  | .local _ .vmem, ⟨17, _⟩ => ⟨S1x64, .f32⟩
  | .local _ .vmem, ⟨18, _⟩ => ⟨S64x768, .f32⟩
  | .local _ .vmem, ⟨19, _⟩ => ⟨S1x768, .f32⟩
  | .local _ .vmem, ⟨20, _⟩ => ⟨S8x10x768, .f32⟩
  | .local _ .vmem, ⟨21, _⟩ => ⟨S8x10x768, .f32⟩
  | .local _ .vmem, ⟨22, _⟩ => ⟨S8x10x64, .f32⟩
  | .local _ .vmem, ⟨23, _⟩ => ⟨S8x10x64, .f32⟩
  | .local _ .vmem, ⟨24, _⟩ => ⟨S8x197x128, .bf16⟩
  | _, _ => ⟨S256x197x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst : Ref sig .tc := ⟨.hbm, 30, rfl⟩
abbrev main_v9 : Ref sig .tc := ⟨.hbm, 31, rfl⟩
abbrev main_v10 : Ref sig .tc := ⟨.hbm, 32, rfl⟩
abbrev main_cst_0 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_1 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_c : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43_0 : Ref sig .tc := ⟨.hbm, 70, rfl⟩
abbrev main_v43_1 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_stg20_0 : Ref sig .tc := ⟨.vmem, 22, rfl⟩
abbrev cc0_stg20_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21
abbrev cc0_sem20_0 : DmaSem sig := 22
abbrev cc0_sem20_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x197x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S192x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S192x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x768 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x768 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S8x10x768 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x10x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S256x197x768 : Shape := ⟨3, ![256, 197, 768]⟩
abbrev S768 : Shape := ⟨1, ![768]⟩
abbrev S10x64 : Shape := ⟨2, ![10, 64]⟩
abbrev S64 : Shape := ⟨1, ![64]⟩
abbrev S64x64 : Shape := ⟨2, ![64, 64]⟩
abbrev S768x64 : Shape := ⟨2, ![768, 64]⟩
abbrev S192x64 : Shape := ⟨2, ![192, 64]⟩
abbrev S192 : Shape := ⟨1, ![192]⟩
abbrev S64x128 : Shape := ⟨2, ![64, 128]⟩
abbrev S128 : Shape := ⟨1, ![128]⟩
abbrev S128x64 : Shape := ⟨2, ![128, 64]⟩
abbrev S64x768 : Shape := ⟨2, ![64, 768]⟩
abbrev S_ : Shape := ⟨0, ![]⟩
abbrev S256x197 : Shape := ⟨2, ![256, 197]⟩
abbrev S256x197x1 : Shape := ⟨3, ![256, 197, 1]⟩
abbrev S1x1x768 : Shape := ⟨3, ![1, 1, 768]⟩
abbrev S256x197x64 : Shape := ⟨3, ![256, 197, 64]⟩
abbrev S256x10x64 : Shape := ⟨3, ![256, 10, 64]⟩
abbrev S256x10 : Shape := ⟨2, ![256, 10]⟩
abbrev S256x10x1 : Shape := ⟨3, ![256, 10, 1]⟩
abbrev S1x1x64 : Shape := ⟨3, ![1, 1, 64]⟩
abbrev S256x10x197 : Shape := ⟨3, ![256, 10, 197]⟩
abbrev S256x1x197 : Shape := ⟨3, ![256, 1, 197]⟩
abbrev S64x192 : Shape := ⟨2, ![64, 192]⟩
abbrev S256x10x192 : Shape := ⟨3, ![256, 10, 192]⟩
abbrev S1x1x192 : Shape := ⟨3, ![1, 1, 192]⟩
abbrev S256x10x128 : Shape := ⟨3, ![256, 10, 128]⟩
abbrev S1x1x128 : Shape := ⟨3, ![1, 1, 128]⟩
abbrev S256x10x768 : Shape := ⟨3, ![256, 10, 768]⟩

abbrev nBuf : Space → Nat
  | .hbm => 588
  | .vmem => 0
  | .smem => 0
  | _ => 0

abbrev hbmTy0_0 (i : Nat) : BufTy := match i % 128 with
  | 0 => ⟨S256x197x768, .f32⟩
  | 1 => ⟨S768, .f32⟩
  | 2 => ⟨S768, .f32⟩
  | 3 => ⟨S10x64, .f32⟩
  | 4 => ⟨S64, .f32⟩
  | 5 => ⟨S64, .f32⟩
  | 6 => ⟨S64x64, .f32⟩
  | 7 => ⟨S768x64, .f32⟩
  | 8 => ⟨S768x64, .f32⟩
  | 9 => ⟨S192x64, .f32⟩
  | 10 => ⟨S192x64, .f32⟩
  | 11 => ⟨S192, .f32⟩
  | 12 => ⟨S192, .f32⟩
  | 13 => ⟨S64, .f32⟩
  | 14 => ⟨S64, .f32⟩
  | 15 => ⟨S64x128, .f32⟩
  | 16 => ⟨S128, .f32⟩
  | 17 => ⟨S128x64, .f32⟩
  | 18 => ⟨S64, .f32⟩
  | 19 => ⟨S64x768, .f32⟩
  | 20 => ⟨S768, .f32⟩
  | 21 => ⟨S_, .f32⟩
  | 22 => ⟨S256x197, .f32⟩
  | 23 => ⟨S256x197x1, .f32⟩
  | 24 => ⟨S_, .f32⟩
  | 25 => ⟨S256x197x1, .f32⟩
  | 26 => ⟨S256x197x1, .f32⟩
  | 27 => ⟨S_, .i32⟩
  | 28 => ⟨S_, .f32⟩
  | 29 => ⟨S256x197, .f32⟩
  | 30 => ⟨S256x197x1, .f32⟩
  | 31 => ⟨S_, .f32⟩
  | 32 => ⟨S256x197x1, .f32⟩
  | 33 => ⟨S256x197x1, .f32⟩
  | 34 => ⟨S256x197x768, .f32⟩
  | 35 => ⟨S256x197x768, .f32⟩
  | 36 => ⟨S256x197x768, .f32⟩
  | 37 => ⟨S_, .f32⟩
  | 38 => ⟨S_, .f32⟩
  | 39 => ⟨S_, .f32⟩
  | 40 => ⟨S_, .f32⟩
  | 41 => ⟨S256x197, .f32⟩
  | 42 => ⟨S256x197x1, .f32⟩
  | 43 => ⟨S256x197x1, .f32⟩
  | 44 => ⟨S256x197x1, .f32⟩
  | 45 => ⟨S_, .f32⟩
  | 46 => ⟨S_, .i1⟩
  | 47 => ⟨S_, .f32⟩
  | 48 => ⟨S_, .f32⟩
  | 49 => ⟨S256x197x1, .f32⟩
  | 50 => ⟨S256x197x1, .f32⟩
  | 51 => ⟨S256x197x768, .f32⟩
  | 52 => ⟨S256x197x768, .f32⟩
  | 53 => ⟨S_, .f32⟩
  | 54 => ⟨S256x197x1, .f32⟩
  | 55 => ⟨S256x197x1, .f32⟩
  | 56 => ⟨S256x197x1, .f32⟩
  | 57 => ⟨S256x197x768, .f32⟩
  | 58 => ⟨S256x197x768, .f32⟩
  | 59 => ⟨S1x1x768, .f32⟩
  | 60 => ⟨S256x197x768, .f32⟩
  | 61 => ⟨S256x197x768, .f32⟩
  | 62 => ⟨S1x1x768, .f32⟩
  | 63 => ⟨S256x197x768, .f32⟩
  | 64 => ⟨S256x197x768, .f32⟩
  | 65 => ⟨S256x197x64, .f32⟩
  | 66 => ⟨S256x197x64, .f32⟩
  | 67 => ⟨S256x10x64, .f32⟩
  | 68 => ⟨S_, .f32⟩
  | 69 => ⟨S256x10, .f32⟩
  | 70 => ⟨S256x10x1, .f32⟩
  | 71 => ⟨S_, .f32⟩
  | 72 => ⟨S256x10x1, .f32⟩
  | 73 => ⟨S256x10x1, .f32⟩
  | 74 => ⟨S_, .i32⟩
  | 75 => ⟨S_, .f32⟩
  | 76 => ⟨S256x10, .f32⟩
  | 77 => ⟨S256x10x1, .f32⟩
  | 78 => ⟨S_, .f32⟩
  | 79 => ⟨S256x10x1, .f32⟩
  | 80 => ⟨S256x10x1, .f32⟩
  | 81 => ⟨S256x10x64, .f32⟩
  | 82 => ⟨S256x10x64, .f32⟩
  | 83 => ⟨S256x10x64, .f32⟩
  | 84 => ⟨S_, .f32⟩
  | 85 => ⟨S_, .f32⟩
  | 86 => ⟨S_, .f32⟩
  | 87 => ⟨S_, .f32⟩
  | 88 => ⟨S256x10, .f32⟩
  | 89 => ⟨S256x10x1, .f32⟩
  | 90 => ⟨S256x10x1, .f32⟩
  | 91 => ⟨S256x10x1, .f32⟩
  | 92 => ⟨S_, .f32⟩
  | 93 => ⟨S_, .i1⟩
  | 94 => ⟨S_, .f32⟩
  | 95 => ⟨S_, .f32⟩
  | 96 => ⟨S256x10x1, .f32⟩
  | 97 => ⟨S256x10x1, .f32⟩
  | 98 => ⟨S256x10x64, .f32⟩
  | 99 => ⟨S256x10x64, .f32⟩
  | 100 => ⟨S_, .f32⟩
  | 101 => ⟨S256x10x1, .f32⟩
  | 102 => ⟨S256x10x1, .f32⟩
  | 103 => ⟨S256x10x1, .f32⟩
  | 104 => ⟨S256x10x64, .f32⟩
  | 105 => ⟨S256x10x64, .f32⟩
  | 106 => ⟨S1x1x64, .f32⟩
  | 107 => ⟨S256x10x64, .f32⟩
  | 108 => ⟨S256x10x64, .f32⟩
  | 109 => ⟨S1x1x64, .f32⟩
  | 110 => ⟨S256x10x64, .f32⟩
  | 111 => ⟨S256x10x64, .f32⟩
  | 112 => ⟨S256x10x64, .f32⟩
  | 113 => ⟨S256x10x197, .f32⟩
  | 114 => ⟨S_, .f32⟩
  | 115 => ⟨S256x10x197, .f32⟩
  | 116 => ⟨S256x10x197, .f32⟩
  | 117 => ⟨S_, .f32⟩
  | 118 => ⟨S256x197, .f32⟩
  | 119 => ⟨S_, .f32⟩
  | 120 => ⟨S256x197, .f32⟩
  | 121 => ⟨S256x197, .f32⟩
  | 122 => ⟨S256x1x197, .f32⟩
  | 123 => ⟨S256x10x197, .f32⟩
  | 124 => ⟨S256x10x197, .f32⟩
  | 125 => ⟨S256x10x197, .f32⟩
  | 126 => ⟨S_, .f32⟩
  | 127 => ⟨S256x197, .f32⟩
  | _ => ⟨S256x197x768, .f32⟩

abbrev hbmTy0_1 (i : Nat) : BufTy := match i % 128 with
  | 0 => ⟨S256x1x197, .f32⟩
  | 1 => ⟨S256x10x197, .f32⟩
  | 2 => ⟨S256x10x197, .f32⟩
  | 3 => ⟨S_, .f32⟩
  | 4 => ⟨S256x10x197, .f32⟩
  | 5 => ⟨S256x10x197, .f32⟩
  | 6 => ⟨S_, .f32⟩
  | 7 => ⟨S256x10, .f32⟩
  | 8 => ⟨S256x10x1, .f32⟩
  | 9 => ⟨S256x10x197, .f32⟩
  | 10 => ⟨S256x10x197, .f32⟩
  | 11 => ⟨S256x10x64, .f32⟩
  | 12 => ⟨S64x192, .f32⟩
  | 13 => ⟨S256x10x192, .f32⟩
  | 14 => ⟨S1x1x192, .f32⟩
  | 15 => ⟨S256x10x192, .f32⟩
  | 16 => ⟨S256x10x192, .f32⟩
  | 17 => ⟨S64x192, .f32⟩
  | 18 => ⟨S256x10x192, .f32⟩
  | 19 => ⟨S1x1x192, .f32⟩
  | 20 => ⟨S256x10x192, .f32⟩
  | 21 => ⟨S256x10x192, .f32⟩
  | 22 => ⟨S256x10x64, .f32⟩
  | 23 => ⟨S256x10x64, .f32⟩
  | 24 => ⟨S256x10x64, .f32⟩
  | 25 => ⟨S256x10x64, .f32⟩
  | 26 => ⟨S256x10x64, .f32⟩
  | 27 => ⟨S256x10x64, .f32⟩
  | 28 => ⟨S256x10x64, .f32⟩
  | 29 => ⟨S256x10x64, .f32⟩
  | 30 => ⟨S256x10x64, .f32⟩
  | 31 => ⟨S_, .f32⟩
  | 32 => ⟨S256x10x64, .f32⟩
  | 33 => ⟨S256x10x64, .f32⟩
  | 34 => ⟨S_, .f32⟩
  | 35 => ⟨S256x10x64, .f32⟩
  | 36 => ⟨S256x10x64, .f32⟩
  | 37 => ⟨S256x10x64, .f32⟩
  | 38 => ⟨S256x10x64, .f32⟩
  | 39 => ⟨S256x10x64, .f32⟩
  | 40 => ⟨S_, .f32⟩
  | 41 => ⟨S256x10x64, .f32⟩
  | 42 => ⟨S256x10x64, .f32⟩
  | 43 => ⟨S_, .f32⟩
  | 44 => ⟨S256x10x64, .f32⟩
  | 45 => ⟨S256x10x64, .f32⟩
  | 46 => ⟨S256x10x64, .f32⟩
  | 47 => ⟨S256x10x64, .f32⟩
  | 48 => ⟨S256x10x64, .f32⟩
  | 49 => ⟨S_, .f32⟩
  | 50 => ⟨S256x10x64, .f32⟩
  | 51 => ⟨S256x10x64, .f32⟩
  | 52 => ⟨S256x10x64, .f32⟩
  | 53 => ⟨S256x10x64, .f32⟩
  | 54 => ⟨S256x10x64, .f32⟩
  | 55 => ⟨S_, .f32⟩
  | 56 => ⟨S256x10, .f32⟩
  | 57 => ⟨S256x10x1, .f32⟩
  | 58 => ⟨S_, .f32⟩
  | 59 => ⟨S256x10x1, .f32⟩
  | 60 => ⟨S256x10x1, .f32⟩
  | 61 => ⟨S_, .i32⟩
  | 62 => ⟨S_, .f32⟩
  | 63 => ⟨S256x10, .f32⟩
  | 64 => ⟨S256x10x1, .f32⟩
  | 65 => ⟨S_, .f32⟩
  | 66 => ⟨S256x10x1, .f32⟩
  | 67 => ⟨S256x10x1, .f32⟩
  | 68 => ⟨S256x10x64, .f32⟩
  | 69 => ⟨S256x10x64, .f32⟩
  | 70 => ⟨S256x10x64, .f32⟩
  | 71 => ⟨S_, .f32⟩
  | 72 => ⟨S_, .f32⟩
  | 73 => ⟨S_, .f32⟩
  | 74 => ⟨S_, .f32⟩
  | 75 => ⟨S256x10, .f32⟩
  | 76 => ⟨S256x10x1, .f32⟩
  | 77 => ⟨S256x10x1, .f32⟩
  | 78 => ⟨S256x10x1, .f32⟩
  | 79 => ⟨S_, .f32⟩
  | 80 => ⟨S_, .i1⟩
  | 81 => ⟨S_, .f32⟩
  | 82 => ⟨S_, .f32⟩
  | 83 => ⟨S256x10x1, .f32⟩
  | 84 => ⟨S256x10x1, .f32⟩
  | 85 => ⟨S256x10x64, .f32⟩
  | 86 => ⟨S256x10x64, .f32⟩
  | 87 => ⟨S_, .f32⟩
  | 88 => ⟨S256x10x1, .f32⟩
  | 89 => ⟨S256x10x1, .f32⟩
  | 90 => ⟨S256x10x1, .f32⟩
  | 91 => ⟨S256x10x64, .f32⟩
  | 92 => ⟨S256x10x64, .f32⟩
  | 93 => ⟨S1x1x64, .f32⟩
  | 94 => ⟨S256x10x64, .f32⟩
  | 95 => ⟨S256x10x64, .f32⟩
  | 96 => ⟨S1x1x64, .f32⟩
  | 97 => ⟨S256x10x64, .f32⟩
  | 98 => ⟨S256x10x64, .f32⟩
  | 99 => ⟨S256x10x128, .f32⟩
  | 100 => ⟨S1x1x128, .f32⟩
  | 101 => ⟨S256x10x128, .f32⟩
  | 102 => ⟨S256x10x128, .f32⟩
  | 103 => ⟨S_, .f32⟩
  | 104 => ⟨S256x10x128, .f32⟩
  | 105 => ⟨S256x10x128, .f32⟩
  | 106 => ⟨S256x10x64, .f32⟩
  | 107 => ⟨S1x1x64, .f32⟩
  | 108 => ⟨S256x10x64, .f32⟩
  | 109 => ⟨S256x10x64, .f32⟩
  | 110 => ⟨S256x10x64, .f32⟩
  | 111 => ⟨S_, .f32⟩
  | 112 => ⟨S256x10, .f32⟩
  | 113 => ⟨S256x10x1, .f32⟩
  | 114 => ⟨S_, .f32⟩
  | 115 => ⟨S256x10x1, .f32⟩
  | 116 => ⟨S256x10x1, .f32⟩
  | 117 => ⟨S_, .i32⟩
  | 118 => ⟨S_, .f32⟩
  | 119 => ⟨S256x10, .f32⟩
  | 120 => ⟨S256x10x1, .f32⟩
  | 121 => ⟨S_, .f32⟩
  | 122 => ⟨S256x10x1, .f32⟩
  | 123 => ⟨S256x10x1, .f32⟩
  | 124 => ⟨S256x10x64, .f32⟩
  | 125 => ⟨S256x10x64, .f32⟩
  | 126 => ⟨S256x10x64, .f32⟩
  | 127 => ⟨S_, .f32⟩
  | _ => ⟨S256x197x768, .f32⟩

abbrev hbmTy0_2 (i : Nat) : BufTy := match i % 128 with
  | 0 => ⟨S_, .f32⟩
  | 1 => ⟨S_, .f32⟩
  | 2 => ⟨S_, .f32⟩
  | 3 => ⟨S256x10, .f32⟩
  | 4 => ⟨S256x10x1, .f32⟩
  | 5 => ⟨S256x10x1, .f32⟩
  | 6 => ⟨S256x10x1, .f32⟩
  | 7 => ⟨S_, .f32⟩
  | 8 => ⟨S_, .i1⟩
  | 9 => ⟨S_, .f32⟩
  | 10 => ⟨S_, .f32⟩
  | 11 => ⟨S256x10x1, .f32⟩
  | 12 => ⟨S256x10x1, .f32⟩
  | 13 => ⟨S256x10x64, .f32⟩
  | 14 => ⟨S256x10x64, .f32⟩
  | 15 => ⟨S_, .f32⟩
  | 16 => ⟨S256x10x1, .f32⟩
  | 17 => ⟨S256x10x1, .f32⟩
  | 18 => ⟨S256x10x1, .f32⟩
  | 19 => ⟨S256x10x64, .f32⟩
  | 20 => ⟨S256x10x64, .f32⟩
  | 21 => ⟨S1x1x64, .f32⟩
  | 22 => ⟨S256x10x64, .f32⟩
  | 23 => ⟨S256x10x64, .f32⟩
  | 24 => ⟨S1x1x64, .f32⟩
  | 25 => ⟨S256x10x64, .f32⟩
  | 26 => ⟨S256x10x64, .f32⟩
  | 27 => ⟨S256x10x64, .f32⟩
  | 28 => ⟨S256x10x197, .f32⟩
  | 29 => ⟨S_, .f32⟩
  | 30 => ⟨S256x10x197, .f32⟩
  | 31 => ⟨S256x10x197, .f32⟩
  | 32 => ⟨S_, .f32⟩
  | 33 => ⟨S256x197, .f32⟩
  | 34 => ⟨S_, .f32⟩
  | 35 => ⟨S256x197, .f32⟩
  | 36 => ⟨S256x197, .f32⟩
  | 37 => ⟨S256x1x197, .f32⟩
  | 38 => ⟨S256x10x197, .f32⟩
  | 39 => ⟨S256x10x197, .f32⟩
  | 40 => ⟨S256x10x197, .f32⟩
  | 41 => ⟨S_, .f32⟩
  | 42 => ⟨S256x197, .f32⟩
  | 43 => ⟨S256x1x197, .f32⟩
  | 44 => ⟨S256x10x197, .f32⟩
  | 45 => ⟨S256x10x197, .f32⟩
  | 46 => ⟨S_, .f32⟩
  | 47 => ⟨S256x10x197, .f32⟩
  | 48 => ⟨S256x10x197, .f32⟩
  | 49 => ⟨S_, .f32⟩
  | 50 => ⟨S256x10, .f32⟩
  | 51 => ⟨S256x10x1, .f32⟩
  | 52 => ⟨S256x10x197, .f32⟩
  | 53 => ⟨S256x10x197, .f32⟩
  | 54 => ⟨S256x10x64, .f32⟩
  | 55 => ⟨S64x192, .f32⟩
  | 56 => ⟨S256x10x192, .f32⟩
  | 57 => ⟨S1x1x192, .f32⟩
  | 58 => ⟨S256x10x192, .f32⟩
  | 59 => ⟨S256x10x192, .f32⟩
  | 60 => ⟨S64x192, .f32⟩
  | 61 => ⟨S256x10x192, .f32⟩
  | 62 => ⟨S1x1x192, .f32⟩
  | 63 => ⟨S256x10x192, .f32⟩
  | 64 => ⟨S256x10x192, .f32⟩
  | 65 => ⟨S256x10x64, .f32⟩
  | 66 => ⟨S256x10x64, .f32⟩
  | 67 => ⟨S256x10x64, .f32⟩
  | 68 => ⟨S256x10x64, .f32⟩
  | 69 => ⟨S256x10x64, .f32⟩
  | 70 => ⟨S256x10x64, .f32⟩
  | 71 => ⟨S256x10x64, .f32⟩
  | 72 => ⟨S256x10x64, .f32⟩
  | 73 => ⟨S256x10x64, .f32⟩
  | 74 => ⟨S_, .f32⟩
  | 75 => ⟨S256x10x64, .f32⟩
  | 76 => ⟨S256x10x64, .f32⟩
  | 77 => ⟨S_, .f32⟩
  | 78 => ⟨S256x10x64, .f32⟩
  | 79 => ⟨S256x10x64, .f32⟩
  | 80 => ⟨S256x10x64, .f32⟩
  | 81 => ⟨S256x10x64, .f32⟩
  | 82 => ⟨S256x10x64, .f32⟩
  | 83 => ⟨S_, .f32⟩
  | 84 => ⟨S256x10x64, .f32⟩
  | 85 => ⟨S256x10x64, .f32⟩
  | 86 => ⟨S_, .f32⟩
  | 87 => ⟨S256x10x64, .f32⟩
  | 88 => ⟨S256x10x64, .f32⟩
  | 89 => ⟨S256x10x64, .f32⟩
  | 90 => ⟨S256x10x64, .f32⟩
  | 91 => ⟨S256x10x64, .f32⟩
  | 92 => ⟨S_, .f32⟩
  | 93 => ⟨S256x10x64, .f32⟩
  | 94 => ⟨S256x10x64, .f32⟩
  | 95 => ⟨S256x10x64, .f32⟩
  | 96 => ⟨S256x10x64, .f32⟩
  | 97 => ⟨S256x10x64, .f32⟩
  | 98 => ⟨S_, .f32⟩
  | 99 => ⟨S256x10, .f32⟩
  | 100 => ⟨S256x10x1, .f32⟩
  | 101 => ⟨S_, .f32⟩
  | 102 => ⟨S256x10x1, .f32⟩
  | 103 => ⟨S256x10x1, .f32⟩
  | 104 => ⟨S_, .i32⟩
  | 105 => ⟨S_, .f32⟩
  | 106 => ⟨S256x10, .f32⟩
  | 107 => ⟨S256x10x1, .f32⟩
  | 108 => ⟨S_, .f32⟩
  | 109 => ⟨S256x10x1, .f32⟩
  | 110 => ⟨S256x10x1, .f32⟩
  | 111 => ⟨S256x10x64, .f32⟩
  | 112 => ⟨S256x10x64, .f32⟩
  | 113 => ⟨S256x10x64, .f32⟩
  | 114 => ⟨S_, .f32⟩
  | 115 => ⟨S_, .f32⟩
  | 116 => ⟨S_, .f32⟩
  | 117 => ⟨S_, .f32⟩
  | 118 => ⟨S256x10, .f32⟩
  | 119 => ⟨S256x10x1, .f32⟩
  | 120 => ⟨S256x10x1, .f32⟩
  | 121 => ⟨S256x10x1, .f32⟩
  | 122 => ⟨S_, .f32⟩
  | 123 => ⟨S_, .i1⟩
  | 124 => ⟨S_, .f32⟩
  | 125 => ⟨S_, .f32⟩
  | 126 => ⟨S256x10x1, .f32⟩
  | 127 => ⟨S256x10x1, .f32⟩
  | _ => ⟨S256x197x768, .f32⟩

abbrev hbmTy0_3 (i : Nat) : BufTy := match i % 128 with
  | 0 => ⟨S256x10x64, .f32⟩
  | 1 => ⟨S256x10x64, .f32⟩
  | 2 => ⟨S_, .f32⟩
  | 3 => ⟨S256x10x1, .f32⟩
  | 4 => ⟨S256x10x1, .f32⟩
  | 5 => ⟨S256x10x1, .f32⟩
  | 6 => ⟨S256x10x64, .f32⟩
  | 7 => ⟨S256x10x64, .f32⟩
  | 8 => ⟨S1x1x64, .f32⟩
  | 9 => ⟨S256x10x64, .f32⟩
  | 10 => ⟨S256x10x64, .f32⟩
  | 11 => ⟨S1x1x64, .f32⟩
  | 12 => ⟨S256x10x64, .f32⟩
  | 13 => ⟨S256x10x64, .f32⟩
  | 14 => ⟨S256x10x128, .f32⟩
  | 15 => ⟨S1x1x128, .f32⟩
  | 16 => ⟨S256x10x128, .f32⟩
  | 17 => ⟨S256x10x128, .f32⟩
  | 18 => ⟨S_, .f32⟩
  | 19 => ⟨S256x10x128, .f32⟩
  | 20 => ⟨S256x10x128, .f32⟩
  | 21 => ⟨S256x10x64, .f32⟩
  | 22 => ⟨S1x1x64, .f32⟩
  | 23 => ⟨S256x10x64, .f32⟩
  | 24 => ⟨S256x10x64, .f32⟩
  | 25 => ⟨S256x10x64, .f32⟩
  | 26 => ⟨S_, .f32⟩
  | 27 => ⟨S256x10, .f32⟩
  | 28 => ⟨S256x10x1, .f32⟩
  | 29 => ⟨S_, .f32⟩
  | 30 => ⟨S256x10x1, .f32⟩
  | 31 => ⟨S256x10x1, .f32⟩
  | 32 => ⟨S_, .i32⟩
  | 33 => ⟨S_, .f32⟩
  | 34 => ⟨S256x10, .f32⟩
  | 35 => ⟨S256x10x1, .f32⟩
  | 36 => ⟨S_, .f32⟩
  | 37 => ⟨S256x10x1, .f32⟩
  | 38 => ⟨S256x10x1, .f32⟩
  | 39 => ⟨S256x10x64, .f32⟩
  | 40 => ⟨S256x10x64, .f32⟩
  | 41 => ⟨S256x10x64, .f32⟩
  | 42 => ⟨S_, .f32⟩
  | 43 => ⟨S_, .f32⟩
  | 44 => ⟨S_, .f32⟩
  | 45 => ⟨S_, .f32⟩
  | 46 => ⟨S256x10, .f32⟩
  | 47 => ⟨S256x10x1, .f32⟩
  | 48 => ⟨S256x10x1, .f32⟩
  | 49 => ⟨S256x10x1, .f32⟩
  | 50 => ⟨S_, .f32⟩
  | 51 => ⟨S_, .i1⟩
  | 52 => ⟨S_, .f32⟩
  | 53 => ⟨S_, .f32⟩
  | 54 => ⟨S256x10x1, .f32⟩
  | 55 => ⟨S256x10x1, .f32⟩
  | 56 => ⟨S256x10x64, .f32⟩
  | 57 => ⟨S256x10x64, .f32⟩
  | 58 => ⟨S_, .f32⟩
  | 59 => ⟨S256x10x1, .f32⟩
  | 60 => ⟨S256x10x1, .f32⟩
  | 61 => ⟨S256x10x1, .f32⟩
  | 62 => ⟨S256x10x64, .f32⟩
  | 63 => ⟨S256x10x64, .f32⟩
  | 64 => ⟨S1x1x64, .f32⟩
  | 65 => ⟨S256x10x64, .f32⟩
  | 66 => ⟨S256x10x64, .f32⟩
  | 67 => ⟨S1x1x64, .f32⟩
  | 68 => ⟨S256x10x64, .f32⟩
  | 69 => ⟨S256x10x64, .f32⟩
  | 70 => ⟨S256x10x64, .f32⟩
  | 71 => ⟨S256x10x197, .f32⟩
  | 72 => ⟨S_, .f32⟩
  | 73 => ⟨S256x10x197, .f32⟩
  | 74 => ⟨S256x10x197, .f32⟩
  | 75 => ⟨S_, .f32⟩
  | 76 => ⟨S256x197, .f32⟩
  | 77 => ⟨S_, .f32⟩
  | 78 => ⟨S256x197, .f32⟩
  | 79 => ⟨S256x197, .f32⟩
  | 80 => ⟨S256x1x197, .f32⟩
  | 81 => ⟨S256x10x197, .f32⟩
  | 82 => ⟨S256x10x197, .f32⟩
  | 83 => ⟨S256x10x197, .f32⟩
  | 84 => ⟨S_, .f32⟩
  | 85 => ⟨S256x197, .f32⟩
  | 86 => ⟨S256x1x197, .f32⟩
  | 87 => ⟨S256x10x197, .f32⟩
  | 88 => ⟨S256x10x197, .f32⟩
  | 89 => ⟨S_, .f32⟩
  | 90 => ⟨S256x10x197, .f32⟩
  | 91 => ⟨S256x10x197, .f32⟩
  | 92 => ⟨S_, .f32⟩
  | 93 => ⟨S256x10, .f32⟩
  | 94 => ⟨S256x10x1, .f32⟩
  | 95 => ⟨S256x10x197, .f32⟩
  | 96 => ⟨S256x10x197, .f32⟩
  | 97 => ⟨S256x10x64, .f32⟩
  | 98 => ⟨S64x192, .f32⟩
  | 99 => ⟨S256x10x192, .f32⟩
  | 100 => ⟨S1x1x192, .f32⟩
  | 101 => ⟨S256x10x192, .f32⟩
  | 102 => ⟨S256x10x192, .f32⟩
  | 103 => ⟨S64x192, .f32⟩
  | 104 => ⟨S256x10x192, .f32⟩
  | 105 => ⟨S1x1x192, .f32⟩
  | 106 => ⟨S256x10x192, .f32⟩
  | 107 => ⟨S256x10x192, .f32⟩
  | 108 => ⟨S256x10x64, .f32⟩
  | 109 => ⟨S256x10x64, .f32⟩
  | 110 => ⟨S256x10x64, .f32⟩
  | 111 => ⟨S256x10x64, .f32⟩
  | 112 => ⟨S256x10x64, .f32⟩
  | 113 => ⟨S256x10x64, .f32⟩
  | 114 => ⟨S256x10x64, .f32⟩
  | 115 => ⟨S256x10x64, .f32⟩
  | 116 => ⟨S256x10x64, .f32⟩
  | 117 => ⟨S_, .f32⟩
  | 118 => ⟨S256x10x64, .f32⟩
  | 119 => ⟨S256x10x64, .f32⟩
  | 120 => ⟨S_, .f32⟩
  | 121 => ⟨S256x10x64, .f32⟩
  | 122 => ⟨S256x10x64, .f32⟩
  | 123 => ⟨S256x10x64, .f32⟩
  | 124 => ⟨S256x10x64, .f32⟩
  | 125 => ⟨S256x10x64, .f32⟩
  | 126 => ⟨S_, .f32⟩
  | 127 => ⟨S256x10x64, .f32⟩
  | _ => ⟨S256x197x768, .f32⟩

abbrev hbmTy0_4 (i : Nat) : BufTy := match i % 128 with
  | 0 => ⟨S256x10x64, .f32⟩
  | 1 => ⟨S_, .f32⟩
  | 2 => ⟨S256x10x64, .f32⟩
  | 3 => ⟨S256x10x64, .f32⟩
  | 4 => ⟨S256x10x64, .f32⟩
  | 5 => ⟨S256x10x64, .f32⟩
  | 6 => ⟨S256x10x64, .f32⟩
  | 7 => ⟨S_, .f32⟩
  | 8 => ⟨S256x10x64, .f32⟩
  | 9 => ⟨S256x10x64, .f32⟩
  | 10 => ⟨S256x10x64, .f32⟩
  | 11 => ⟨S256x10x64, .f32⟩
  | 12 => ⟨S256x10x64, .f32⟩
  | 13 => ⟨S_, .f32⟩
  | 14 => ⟨S256x10, .f32⟩
  | 15 => ⟨S256x10x1, .f32⟩
  | 16 => ⟨S_, .f32⟩
  | 17 => ⟨S256x10x1, .f32⟩
  | 18 => ⟨S256x10x1, .f32⟩
  | 19 => ⟨S_, .i32⟩
  | 20 => ⟨S_, .f32⟩
  | 21 => ⟨S256x10, .f32⟩
  | 22 => ⟨S256x10x1, .f32⟩
  | 23 => ⟨S_, .f32⟩
  | 24 => ⟨S256x10x1, .f32⟩
  | 25 => ⟨S256x10x1, .f32⟩
  | 26 => ⟨S256x10x64, .f32⟩
  | 27 => ⟨S256x10x64, .f32⟩
  | 28 => ⟨S256x10x64, .f32⟩
  | 29 => ⟨S_, .f32⟩
  | 30 => ⟨S_, .f32⟩
  | 31 => ⟨S_, .f32⟩
  | 32 => ⟨S_, .f32⟩
  | 33 => ⟨S256x10, .f32⟩
  | 34 => ⟨S256x10x1, .f32⟩
  | 35 => ⟨S256x10x1, .f32⟩
  | 36 => ⟨S256x10x1, .f32⟩
  | 37 => ⟨S_, .f32⟩
  | 38 => ⟨S_, .i1⟩
  | 39 => ⟨S_, .f32⟩
  | 40 => ⟨S_, .f32⟩
  | 41 => ⟨S256x10x1, .f32⟩
  | 42 => ⟨S256x10x1, .f32⟩
  | 43 => ⟨S256x10x64, .f32⟩
  | 44 => ⟨S256x10x64, .f32⟩
  | 45 => ⟨S_, .f32⟩
  | 46 => ⟨S256x10x1, .f32⟩
  | 47 => ⟨S256x10x1, .f32⟩
  | 48 => ⟨S256x10x1, .f32⟩
  | 49 => ⟨S256x10x64, .f32⟩
  | 50 => ⟨S256x10x64, .f32⟩
  | 51 => ⟨S1x1x64, .f32⟩
  | 52 => ⟨S256x10x64, .f32⟩
  | 53 => ⟨S256x10x64, .f32⟩
  | 54 => ⟨S1x1x64, .f32⟩
  | 55 => ⟨S256x10x64, .f32⟩
  | 56 => ⟨S256x10x64, .f32⟩
  | 57 => ⟨S256x10x128, .f32⟩
  | 58 => ⟨S1x1x128, .f32⟩
  | 59 => ⟨S256x10x128, .f32⟩
  | 60 => ⟨S256x10x128, .f32⟩
  | 61 => ⟨S_, .f32⟩
  | 62 => ⟨S256x10x128, .f32⟩
  | 63 => ⟨S256x10x128, .f32⟩
  | 64 => ⟨S256x10x64, .f32⟩
  | 65 => ⟨S1x1x64, .f32⟩
  | 66 => ⟨S256x10x64, .f32⟩
  | 67 => ⟨S256x10x64, .f32⟩
  | 68 => ⟨S256x10x64, .f32⟩
  | 69 => ⟨S256x10x768, .f32⟩
  | 70 => ⟨S1x1x768, .f32⟩
  | 71 => ⟨S256x10x768, .f32⟩
  | 72 => ⟨S256x10x768, .f32⟩
  | 73 => ⟨S_, .f32⟩
  | 74 => ⟨S256x10x768, .f32⟩
  | 75 => ⟨S256x10x768, .f32⟩
  | _ => ⟨S256x197x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S256x197x768, .f32⟩

abbrev bufTy : (tb : Table) → Fin (tcTables nBuf tb) → BufTy
  | .hbm, ⟨i, _⟩ => hbmTy i
  | _, _ => ⟨S256x197x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_cst_0 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_cst_3 : Ref sig .tc := ⟨.hbm, 45, rfl⟩
abbrev main_call0_v13 : Ref sig .tc := ⟨.hbm, 46, rfl⟩
abbrev main_call0_cst_4 : Ref sig .tc := ⟨.hbm, 47, rfl⟩
abbrev main_call0_call0_v0 : Ref sig .tc := ⟨.hbm, 48, rfl⟩
abbrev main_call0_call0_v1 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_cst_1 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_cst_2 : Ref sig .tc := ⟨.hbm, 68, rfl⟩
abbrev main_v21 : Ref sig .tc := ⟨.hbm, 69, rfl⟩
abbrev main_v22 : Ref sig .tc := ⟨.hbm, 70, rfl⟩
abbrev main_cst_3 : Ref sig .tc := ⟨.hbm, 71, rfl⟩
abbrev main_v23 : Ref sig .tc := ⟨.hbm, 72, rfl⟩
abbrev main_v24 : Ref sig .tc := ⟨.hbm, 73, rfl⟩
abbrev main_c_4 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_cst_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_cst_1 : Ref sig .tc := ⟨.hbm, 85, rfl⟩
abbrev main_call1_v8 : Ref sig .tc := ⟨.hbm, 86, rfl⟩
abbrev main_call1_cst_2 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_v12 : Ref sig .tc := ⟨.hbm, 91, rfl⟩
abbrev main_call1_cst_3 : Ref sig .tc := ⟨.hbm, 92, rfl⟩
abbrev main_call1_v13 : Ref sig .tc := ⟨.hbm, 93, rfl⟩
abbrev main_call1_cst_4 : Ref sig .tc := ⟨.hbm, 94, rfl⟩
abbrev main_call1_call0_v0 : Ref sig .tc := ⟨.hbm, 95, rfl⟩
abbrev main_call1_call0_v1 : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_cst_5 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_cst_6 : Ref sig .tc := ⟨.hbm, 114, rfl⟩
abbrev main_v41 : Ref sig .tc := ⟨.hbm, 115, rfl⟩
abbrev main_v42 : Ref sig .tc := ⟨.hbm, 116, rfl⟩
abbrev main_cst_7 : Ref sig .tc := ⟨.hbm, 117, rfl⟩
abbrev main_v43 : Ref sig .tc := ⟨.hbm, 118, rfl⟩
abbrev main_cst_8 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_cst_9 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_cst_10 : Ref sig .tc := ⟨.hbm, 131, rfl⟩
abbrev main_v54 : Ref sig .tc := ⟨.hbm, 132, rfl⟩
abbrev main_v55 : Ref sig .tc := ⟨.hbm, 133, rfl⟩
abbrev main_cst_11 : Ref sig .tc := ⟨.hbm, 134, rfl⟩
abbrev main_v56 : Ref sig .tc := ⟨.hbm, 135, rfl⟩
abbrev main_v57 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_cst_12 : Ref sig .tc := ⟨.hbm, 159, rfl⟩
abbrev main_v80 : Ref sig .tc := ⟨.hbm, 160, rfl⟩
abbrev main_v81 : Ref sig .tc := ⟨.hbm, 161, rfl⟩
abbrev main_cst_13 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_cst_14 : Ref sig .tc := ⟨.hbm, 168, rfl⟩
abbrev main_v87 : Ref sig .tc := ⟨.hbm, 169, rfl⟩
abbrev main_v88 : Ref sig .tc := ⟨.hbm, 170, rfl⟩
abbrev main_cst_15 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_cst_16 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_cst_17 : Ref sig .tc := ⟨.hbm, 183, rfl⟩
abbrev main_v99 : Ref sig .tc := ⟨.hbm, 184, rfl⟩
abbrev main_v100 : Ref sig .tc := ⟨.hbm, 185, rfl⟩
abbrev main_cst_18 : Ref sig .tc := ⟨.hbm, 186, rfl⟩
abbrev main_v101 : Ref sig .tc := ⟨.hbm, 187, rfl⟩
abbrev main_v102 : Ref sig .tc := ⟨.hbm, 188, rfl⟩
abbrev main_c_19 : Ref sig .tc := ⟨.hbm, 189, rfl⟩
abbrev main_call2_cst : Ref sig .tc := ⟨.hbm, 190, rfl⟩
abbrev main_call2_v0 : Ref sig .tc := ⟨.hbm, 191, rfl⟩
abbrev main_call2_v1 : Ref sig .tc := ⟨.hbm, 192, rfl⟩
abbrev main_call2_cst_0 : Ref sig .tc := ⟨.hbm, 193, rfl⟩
abbrev main_call2_v2 : Ref sig .tc := ⟨.hbm, 194, rfl⟩
abbrev main_call2_v3 : Ref sig .tc := ⟨.hbm, 195, rfl⟩
abbrev main_call2_v4 : Ref sig .tc := ⟨.hbm, 196, rfl⟩
abbrev main_call2_v5 : Ref sig .tc := ⟨.hbm, 197, rfl⟩
abbrev main_call2_v6 : Ref sig .tc := ⟨.hbm, 198, rfl⟩
abbrev main_call2_v7 : Ref sig .tc := ⟨.hbm, 199, rfl⟩
abbrev main_call2_cst_1 : Ref sig .tc := ⟨.hbm, 200, rfl⟩
abbrev main_call2_v8 : Ref sig .tc := ⟨.hbm, 201, rfl⟩
abbrev main_call2_cst_2 : Ref sig .tc := ⟨.hbm, 202, rfl⟩
abbrev main_call2_v9 : Ref sig .tc := ⟨.hbm, 203, rfl⟩
abbrev main_call2_v10 : Ref sig .tc := ⟨.hbm, 204, rfl⟩
abbrev main_call2_v11 : Ref sig .tc := ⟨.hbm, 205, rfl⟩
abbrev main_call2_v12 : Ref sig .tc := ⟨.hbm, 206, rfl⟩
abbrev main_call2_cst_3 : Ref sig .tc := ⟨.hbm, 207, rfl⟩
abbrev main_call2_v13 : Ref sig .tc := ⟨.hbm, 208, rfl⟩
abbrev main_call2_cst_4 : Ref sig .tc := ⟨.hbm, 209, rfl⟩
abbrev main_call2_call0_v0 : Ref sig .tc := ⟨.hbm, 210, rfl⟩
abbrev main_call2_call0_v1 : Ref sig .tc := ⟨.hbm, 211, rfl⟩
abbrev main_v103 : Ref sig .tc := ⟨.hbm, 212, rfl⟩
abbrev main_v104 : Ref sig .tc := ⟨.hbm, 213, rfl⟩
abbrev main_v105 : Ref sig .tc := ⟨.hbm, 214, rfl⟩
abbrev main_cst_20 : Ref sig .tc := ⟨.hbm, 215, rfl⟩
abbrev main_v106 : Ref sig .tc := ⟨.hbm, 216, rfl⟩
abbrev main_v107 : Ref sig .tc := ⟨.hbm, 217, rfl⟩
abbrev main_v108 : Ref sig .tc := ⟨.hbm, 218, rfl⟩
abbrev main_v109 : Ref sig .tc := ⟨.hbm, 219, rfl⟩
abbrev main_v110 : Ref sig .tc := ⟨.hbm, 220, rfl⟩
abbrev main_v111 : Ref sig .tc := ⟨.hbm, 221, rfl⟩
abbrev main_v112 : Ref sig .tc := ⟨.hbm, 222, rfl⟩
abbrev main_v113 : Ref sig .tc := ⟨.hbm, 223, rfl⟩
abbrev main_v114 : Ref sig .tc := ⟨.hbm, 224, rfl⟩
abbrev main_v115 : Ref sig .tc := ⟨.hbm, 225, rfl⟩
abbrev main_v116 : Ref sig .tc := ⟨.hbm, 226, rfl⟩
abbrev main_v117 : Ref sig .tc := ⟨.hbm, 227, rfl⟩
abbrev main_v118 : Ref sig .tc := ⟨.hbm, 228, rfl⟩
abbrev main_v119 : Ref sig .tc := ⟨.hbm, 229, rfl⟩
abbrev main_v120 : Ref sig .tc := ⟨.hbm, 230, rfl⟩
abbrev main_call3_cst : Ref sig .tc := ⟨.hbm, 231, rfl⟩
abbrev main_call3_v0 : Ref sig .tc := ⟨.hbm, 232, rfl⟩
abbrev main_v121 : Ref sig .tc := ⟨.hbm, 233, rfl⟩
abbrev main_v122 : Ref sig .tc := ⟨.hbm, 234, rfl⟩
abbrev main_v123 : Ref sig .tc := ⟨.hbm, 235, rfl⟩
abbrev main_v124 : Ref sig .tc := ⟨.hbm, 236, rfl⟩
abbrev main_v125 : Ref sig .tc := ⟨.hbm, 237, rfl⟩
abbrev main_v126 : Ref sig .tc := ⟨.hbm, 238, rfl⟩
abbrev main_cst_21 : Ref sig .tc := ⟨.hbm, 239, rfl⟩
abbrev main_v127 : Ref sig .tc := ⟨.hbm, 240, rfl⟩
abbrev main_v128 : Ref sig .tc := ⟨.hbm, 241, rfl⟩
abbrev main_cst_22 : Ref sig .tc := ⟨.hbm, 242, rfl⟩
abbrev main_v129 : Ref sig .tc := ⟨.hbm, 243, rfl⟩
abbrev main_v130 : Ref sig .tc := ⟨.hbm, 244, rfl⟩
abbrev main_c_23 : Ref sig .tc := ⟨.hbm, 245, rfl⟩
abbrev main_call4_cst : Ref sig .tc := ⟨.hbm, 246, rfl⟩
abbrev main_call4_v0 : Ref sig .tc := ⟨.hbm, 247, rfl⟩
abbrev main_call4_v1 : Ref sig .tc := ⟨.hbm, 248, rfl⟩
abbrev main_call4_cst_0 : Ref sig .tc := ⟨.hbm, 249, rfl⟩
abbrev main_call4_v2 : Ref sig .tc := ⟨.hbm, 250, rfl⟩
abbrev main_call4_v3 : Ref sig .tc := ⟨.hbm, 251, rfl⟩
abbrev main_call4_v4 : Ref sig .tc := ⟨.hbm, 252, rfl⟩
abbrev main_call4_v5 : Ref sig .tc := ⟨.hbm, 253, rfl⟩
abbrev main_call4_v6 : Ref sig .tc := ⟨.hbm, 254, rfl⟩
abbrev main_call4_v7 : Ref sig .tc := ⟨.hbm, 255, rfl⟩
abbrev main_call4_cst_1 : Ref sig .tc := ⟨.hbm, 256, rfl⟩
abbrev main_call4_v8 : Ref sig .tc := ⟨.hbm, 257, rfl⟩
abbrev main_call4_cst_2 : Ref sig .tc := ⟨.hbm, 258, rfl⟩
abbrev main_call4_v9 : Ref sig .tc := ⟨.hbm, 259, rfl⟩
abbrev main_call4_v10 : Ref sig .tc := ⟨.hbm, 260, rfl⟩
abbrev main_call4_v11 : Ref sig .tc := ⟨.hbm, 261, rfl⟩
abbrev main_call4_v12 : Ref sig .tc := ⟨.hbm, 262, rfl⟩
abbrev main_call4_cst_3 : Ref sig .tc := ⟨.hbm, 263, rfl⟩
abbrev main_call4_v13 : Ref sig .tc := ⟨.hbm, 264, rfl⟩
abbrev main_call4_cst_4 : Ref sig .tc := ⟨.hbm, 265, rfl⟩
abbrev main_call4_call0_v0 : Ref sig .tc := ⟨.hbm, 266, rfl⟩
abbrev main_call4_call0_v1 : Ref sig .tc := ⟨.hbm, 267, rfl⟩
abbrev main_v131 : Ref sig .tc := ⟨.hbm, 268, rfl⟩
abbrev main_v132 : Ref sig .tc := ⟨.hbm, 269, rfl⟩
abbrev main_v133 : Ref sig .tc := ⟨.hbm, 270, rfl⟩
abbrev main_cst_24 : Ref sig .tc := ⟨.hbm, 271, rfl⟩
abbrev main_v134 : Ref sig .tc := ⟨.hbm, 272, rfl⟩
abbrev main_v135 : Ref sig .tc := ⟨.hbm, 273, rfl⟩
abbrev main_v136 : Ref sig .tc := ⟨.hbm, 274, rfl⟩
abbrev main_v137 : Ref sig .tc := ⟨.hbm, 275, rfl⟩
abbrev main_v138 : Ref sig .tc := ⟨.hbm, 276, rfl⟩
abbrev main_v139 : Ref sig .tc := ⟨.hbm, 277, rfl⟩
abbrev main_v140 : Ref sig .tc := ⟨.hbm, 278, rfl⟩
abbrev main_v141 : Ref sig .tc := ⟨.hbm, 279, rfl⟩
abbrev main_v142 : Ref sig .tc := ⟨.hbm, 280, rfl⟩
abbrev main_v143 : Ref sig .tc := ⟨.hbm, 281, rfl⟩
abbrev main_v144 : Ref sig .tc := ⟨.hbm, 282, rfl⟩
abbrev main_v145 : Ref sig .tc := ⟨.hbm, 283, rfl⟩
abbrev main_v146 : Ref sig .tc := ⟨.hbm, 284, rfl⟩
abbrev main_cst_25 : Ref sig .tc := ⟨.hbm, 285, rfl⟩
abbrev main_v147 : Ref sig .tc := ⟨.hbm, 286, rfl⟩
abbrev main_v148 : Ref sig .tc := ⟨.hbm, 287, rfl⟩
abbrev main_cst_26 : Ref sig .tc := ⟨.hbm, 288, rfl⟩
abbrev main_v149 : Ref sig .tc := ⟨.hbm, 289, rfl⟩
abbrev main_cst_27 : Ref sig .tc := ⟨.hbm, 290, rfl⟩
abbrev main_v150 : Ref sig .tc := ⟨.hbm, 291, rfl⟩
abbrev main_v151 : Ref sig .tc := ⟨.hbm, 292, rfl⟩
abbrev main_v152 : Ref sig .tc := ⟨.hbm, 293, rfl⟩
abbrev main_v153 : Ref sig .tc := ⟨.hbm, 294, rfl⟩
abbrev main_v154 : Ref sig .tc := ⟨.hbm, 295, rfl⟩
abbrev main_v155 : Ref sig .tc := ⟨.hbm, 296, rfl⟩
abbrev main_cst_28 : Ref sig .tc := ⟨.hbm, 297, rfl⟩
abbrev main_v156 : Ref sig .tc := ⟨.hbm, 298, rfl⟩
abbrev main_v157 : Ref sig .tc := ⟨.hbm, 299, rfl⟩
abbrev main_v158 : Ref sig .tc := ⟨.hbm, 300, rfl⟩
abbrev main_v159 : Ref sig .tc := ⟨.hbm, 301, rfl⟩
abbrev main_cst_29 : Ref sig .tc := ⟨.hbm, 302, rfl⟩
abbrev main_v160 : Ref sig .tc := ⟨.hbm, 303, rfl⟩
abbrev main_v161 : Ref sig .tc := ⟨.hbm, 304, rfl⟩
abbrev main_cst_30 : Ref sig .tc := ⟨.hbm, 305, rfl⟩
abbrev main_v162 : Ref sig .tc := ⟨.hbm, 306, rfl⟩
abbrev main_v163 : Ref sig .tc := ⟨.hbm, 307, rfl⟩
abbrev main_v164 : Ref sig .tc := ⟨.hbm, 308, rfl⟩
abbrev main_v165 : Ref sig .tc := ⟨.hbm, 309, rfl⟩
abbrev main_v166 : Ref sig .tc := ⟨.hbm, 310, rfl⟩
abbrev main_v167 : Ref sig .tc := ⟨.hbm, 311, rfl⟩
abbrev main_v168 : Ref sig .tc := ⟨.hbm, 312, rfl⟩
abbrev main_v169 : Ref sig .tc := ⟨.hbm, 313, rfl⟩
abbrev main_v170 : Ref sig .tc := ⟨.hbm, 314, rfl⟩
abbrev main_v171 : Ref sig .tc := ⟨.hbm, 315, rfl⟩
abbrev main_v172 : Ref sig .tc := ⟨.hbm, 316, rfl⟩
abbrev main_v173 : Ref sig .tc := ⟨.hbm, 317, rfl⟩
abbrev main_v174 : Ref sig .tc := ⟨.hbm, 318, rfl⟩
abbrev main_v175 : Ref sig .tc := ⟨.hbm, 319, rfl⟩
abbrev main_v176 : Ref sig .tc := ⟨.hbm, 320, rfl⟩
abbrev main_v177 : Ref sig .tc := ⟨.hbm, 321, rfl⟩
abbrev main_v178 : Ref sig .tc := ⟨.hbm, 322, rfl⟩
abbrev main_v179 : Ref sig .tc := ⟨.hbm, 323, rfl⟩
abbrev main_v180 : Ref sig .tc := ⟨.hbm, 324, rfl⟩
abbrev main_v181 : Ref sig .tc := ⟨.hbm, 325, rfl⟩
abbrev main_v182 : Ref sig .tc := ⟨.hbm, 326, rfl⟩
abbrev main_v183 : Ref sig .tc := ⟨.hbm, 327, rfl⟩
abbrev main_v184 : Ref sig .tc := ⟨.hbm, 328, rfl⟩
abbrev main_v185 : Ref sig .tc := ⟨.hbm, 329, rfl⟩
abbrev main_cst_31 : Ref sig .tc := ⟨.hbm, 330, rfl⟩
abbrev main_v186 : Ref sig .tc := ⟨.hbm, 331, rfl⟩
abbrev main_v187 : Ref sig .tc := ⟨.hbm, 332, rfl⟩
abbrev main_cst_32 : Ref sig .tc := ⟨.hbm, 333, rfl⟩
abbrev main_v188 : Ref sig .tc := ⟨.hbm, 334, rfl⟩
abbrev main_v189 : Ref sig .tc := ⟨.hbm, 335, rfl⟩
abbrev main_v190 : Ref sig .tc := ⟨.hbm, 336, rfl⟩
abbrev main_v191 : Ref sig .tc := ⟨.hbm, 337, rfl⟩
abbrev main_v192 : Ref sig .tc := ⟨.hbm, 338, rfl⟩
abbrev main_cst_33 : Ref sig .tc := ⟨.hbm, 339, rfl⟩
abbrev main_v193 : Ref sig .tc := ⟨.hbm, 340, rfl⟩
abbrev main_v194 : Ref sig .tc := ⟨.hbm, 341, rfl⟩
abbrev main_cst_34 : Ref sig .tc := ⟨.hbm, 342, rfl⟩
abbrev main_v195 : Ref sig .tc := ⟨.hbm, 343, rfl⟩
abbrev main_v196 : Ref sig .tc := ⟨.hbm, 344, rfl⟩
abbrev main_v197 : Ref sig .tc := ⟨.hbm, 345, rfl⟩
abbrev main_v198 : Ref sig .tc := ⟨.hbm, 346, rfl⟩
abbrev main_v199 : Ref sig .tc := ⟨.hbm, 347, rfl⟩
abbrev main_cst_35 : Ref sig .tc := ⟨.hbm, 348, rfl⟩
abbrev main_v200 : Ref sig .tc := ⟨.hbm, 349, rfl⟩
abbrev main_v201 : Ref sig .tc := ⟨.hbm, 350, rfl⟩
abbrev main_v202 : Ref sig .tc := ⟨.hbm, 351, rfl⟩
abbrev main_v203 : Ref sig .tc := ⟨.hbm, 352, rfl⟩
abbrev main_v204 : Ref sig .tc := ⟨.hbm, 353, rfl⟩
abbrev main_cst_36 : Ref sig .tc := ⟨.hbm, 354, rfl⟩
abbrev main_v205 : Ref sig .tc := ⟨.hbm, 355, rfl⟩
abbrev main_v206 : Ref sig .tc := ⟨.hbm, 356, rfl⟩
abbrev main_cst_37 : Ref sig .tc := ⟨.hbm, 357, rfl⟩
abbrev main_v207 : Ref sig .tc := ⟨.hbm, 358, rfl⟩
abbrev main_v208 : Ref sig .tc := ⟨.hbm, 359, rfl⟩
abbrev main_c_38 : Ref sig .tc := ⟨.hbm, 360, rfl⟩
abbrev main_call5_cst : Ref sig .tc := ⟨.hbm, 361, rfl⟩
abbrev main_call5_v0 : Ref sig .tc := ⟨.hbm, 362, rfl⟩
abbrev main_call5_v1 : Ref sig .tc := ⟨.hbm, 363, rfl⟩
abbrev main_call5_cst_0 : Ref sig .tc := ⟨.hbm, 364, rfl⟩
abbrev main_call5_v2 : Ref sig .tc := ⟨.hbm, 365, rfl⟩
abbrev main_call5_v3 : Ref sig .tc := ⟨.hbm, 366, rfl⟩
abbrev main_call5_v4 : Ref sig .tc := ⟨.hbm, 367, rfl⟩
abbrev main_call5_v5 : Ref sig .tc := ⟨.hbm, 368, rfl⟩
abbrev main_call5_v6 : Ref sig .tc := ⟨.hbm, 369, rfl⟩
abbrev main_call5_v7 : Ref sig .tc := ⟨.hbm, 370, rfl⟩
abbrev main_call5_cst_1 : Ref sig .tc := ⟨.hbm, 371, rfl⟩
abbrev main_call5_v8 : Ref sig .tc := ⟨.hbm, 372, rfl⟩
abbrev main_call5_cst_2 : Ref sig .tc := ⟨.hbm, 373, rfl⟩
abbrev main_call5_v9 : Ref sig .tc := ⟨.hbm, 374, rfl⟩
abbrev main_call5_v10 : Ref sig .tc := ⟨.hbm, 375, rfl⟩
abbrev main_call5_v11 : Ref sig .tc := ⟨.hbm, 376, rfl⟩
abbrev main_call5_v12 : Ref sig .tc := ⟨.hbm, 377, rfl⟩
abbrev main_call5_cst_3 : Ref sig .tc := ⟨.hbm, 378, rfl⟩
abbrev main_call5_v13 : Ref sig .tc := ⟨.hbm, 379, rfl⟩
abbrev main_call5_cst_4 : Ref sig .tc := ⟨.hbm, 380, rfl⟩
abbrev main_call5_call0_v0 : Ref sig .tc := ⟨.hbm, 381, rfl⟩
abbrev main_call5_call0_v1 : Ref sig .tc := ⟨.hbm, 382, rfl⟩
abbrev main_v209 : Ref sig .tc := ⟨.hbm, 383, rfl⟩
abbrev main_v210 : Ref sig .tc := ⟨.hbm, 384, rfl⟩
abbrev main_v211 : Ref sig .tc := ⟨.hbm, 385, rfl⟩
abbrev main_cst_39 : Ref sig .tc := ⟨.hbm, 386, rfl⟩
abbrev main_v212 : Ref sig .tc := ⟨.hbm, 387, rfl⟩
abbrev main_v213 : Ref sig .tc := ⟨.hbm, 388, rfl⟩
abbrev main_v214 : Ref sig .tc := ⟨.hbm, 389, rfl⟩
abbrev main_v215 : Ref sig .tc := ⟨.hbm, 390, rfl⟩
abbrev main_v216 : Ref sig .tc := ⟨.hbm, 391, rfl⟩
abbrev main_v217 : Ref sig .tc := ⟨.hbm, 392, rfl⟩
abbrev main_v218 : Ref sig .tc := ⟨.hbm, 393, rfl⟩
abbrev main_v219 : Ref sig .tc := ⟨.hbm, 394, rfl⟩
abbrev main_v220 : Ref sig .tc := ⟨.hbm, 395, rfl⟩
abbrev main_v221 : Ref sig .tc := ⟨.hbm, 396, rfl⟩
abbrev main_v222 : Ref sig .tc := ⟨.hbm, 397, rfl⟩
abbrev main_v223 : Ref sig .tc := ⟨.hbm, 398, rfl⟩
abbrev main_v224 : Ref sig .tc := ⟨.hbm, 399, rfl⟩
abbrev main_v225 : Ref sig .tc := ⟨.hbm, 400, rfl⟩
abbrev main_v226 : Ref sig .tc := ⟨.hbm, 401, rfl⟩
abbrev main_call6_cst : Ref sig .tc := ⟨.hbm, 402, rfl⟩
abbrev main_call6_v0 : Ref sig .tc := ⟨.hbm, 403, rfl⟩
abbrev main_v227 : Ref sig .tc := ⟨.hbm, 404, rfl⟩
abbrev main_v228 : Ref sig .tc := ⟨.hbm, 405, rfl⟩
abbrev main_v229 : Ref sig .tc := ⟨.hbm, 406, rfl⟩
abbrev main_v230 : Ref sig .tc := ⟨.hbm, 407, rfl⟩
abbrev main_v231 : Ref sig .tc := ⟨.hbm, 408, rfl⟩
abbrev main_v232 : Ref sig .tc := ⟨.hbm, 409, rfl⟩
abbrev main_cst_40 : Ref sig .tc := ⟨.hbm, 410, rfl⟩
abbrev main_v233 : Ref sig .tc := ⟨.hbm, 411, rfl⟩
abbrev main_v234 : Ref sig .tc := ⟨.hbm, 412, rfl⟩
abbrev main_cst_41 : Ref sig .tc := ⟨.hbm, 413, rfl⟩
abbrev main_v235 : Ref sig .tc := ⟨.hbm, 414, rfl⟩
abbrev main_v236 : Ref sig .tc := ⟨.hbm, 415, rfl⟩
abbrev main_c_42 : Ref sig .tc := ⟨.hbm, 416, rfl⟩
abbrev main_call7_cst : Ref sig .tc := ⟨.hbm, 417, rfl⟩
abbrev main_call7_v0 : Ref sig .tc := ⟨.hbm, 418, rfl⟩
abbrev main_call7_v1 : Ref sig .tc := ⟨.hbm, 419, rfl⟩
abbrev main_call7_cst_0 : Ref sig .tc := ⟨.hbm, 420, rfl⟩
abbrev main_call7_v2 : Ref sig .tc := ⟨.hbm, 421, rfl⟩
abbrev main_call7_v3 : Ref sig .tc := ⟨.hbm, 422, rfl⟩
abbrev main_call7_v4 : Ref sig .tc := ⟨.hbm, 423, rfl⟩
abbrev main_call7_v5 : Ref sig .tc := ⟨.hbm, 424, rfl⟩
abbrev main_call7_v6 : Ref sig .tc := ⟨.hbm, 425, rfl⟩
abbrev main_call7_v7 : Ref sig .tc := ⟨.hbm, 426, rfl⟩
abbrev main_call7_cst_1 : Ref sig .tc := ⟨.hbm, 427, rfl⟩
abbrev main_call7_v8 : Ref sig .tc := ⟨.hbm, 428, rfl⟩
abbrev main_call7_cst_2 : Ref sig .tc := ⟨.hbm, 429, rfl⟩
abbrev main_call7_v9 : Ref sig .tc := ⟨.hbm, 430, rfl⟩
abbrev main_call7_v10 : Ref sig .tc := ⟨.hbm, 431, rfl⟩
abbrev main_call7_v11 : Ref sig .tc := ⟨.hbm, 432, rfl⟩
abbrev main_call7_v12 : Ref sig .tc := ⟨.hbm, 433, rfl⟩
abbrev main_call7_cst_3 : Ref sig .tc := ⟨.hbm, 434, rfl⟩
abbrev main_call7_v13 : Ref sig .tc := ⟨.hbm, 435, rfl⟩
abbrev main_call7_cst_4 : Ref sig .tc := ⟨.hbm, 436, rfl⟩
abbrev main_call7_call0_v0 : Ref sig .tc := ⟨.hbm, 437, rfl⟩
abbrev main_call7_call0_v1 : Ref sig .tc := ⟨.hbm, 438, rfl⟩
abbrev main_v237 : Ref sig .tc := ⟨.hbm, 439, rfl⟩
abbrev main_v238 : Ref sig .tc := ⟨.hbm, 440, rfl⟩
abbrev main_v239 : Ref sig .tc := ⟨.hbm, 441, rfl⟩
abbrev main_cst_43 : Ref sig .tc := ⟨.hbm, 442, rfl⟩
abbrev main_v240 : Ref sig .tc := ⟨.hbm, 443, rfl⟩
abbrev main_v241 : Ref sig .tc := ⟨.hbm, 444, rfl⟩
abbrev main_v242 : Ref sig .tc := ⟨.hbm, 445, rfl⟩
abbrev main_v243 : Ref sig .tc := ⟨.hbm, 446, rfl⟩
abbrev main_v244 : Ref sig .tc := ⟨.hbm, 447, rfl⟩
abbrev main_v245 : Ref sig .tc := ⟨.hbm, 448, rfl⟩
abbrev main_v246 : Ref sig .tc := ⟨.hbm, 449, rfl⟩
abbrev main_v247 : Ref sig .tc := ⟨.hbm, 450, rfl⟩
abbrev main_v248 : Ref sig .tc := ⟨.hbm, 451, rfl⟩
abbrev main_v249 : Ref sig .tc := ⟨.hbm, 452, rfl⟩
abbrev main_v250 : Ref sig .tc := ⟨.hbm, 453, rfl⟩
abbrev main_v251 : Ref sig .tc := ⟨.hbm, 454, rfl⟩
abbrev main_v252 : Ref sig .tc := ⟨.hbm, 455, rfl⟩
abbrev main_cst_44 : Ref sig .tc := ⟨.hbm, 456, rfl⟩
abbrev main_v253 : Ref sig .tc := ⟨.hbm, 457, rfl⟩
abbrev main_v254 : Ref sig .tc := ⟨.hbm, 458, rfl⟩
abbrev main_cst_45 : Ref sig .tc := ⟨.hbm, 459, rfl⟩
abbrev main_v255 : Ref sig .tc := ⟨.hbm, 460, rfl⟩
abbrev main_cst_46 : Ref sig .tc := ⟨.hbm, 461, rfl⟩
abbrev main_v256 : Ref sig .tc := ⟨.hbm, 462, rfl⟩
abbrev main_v257 : Ref sig .tc := ⟨.hbm, 463, rfl⟩
abbrev main_v258 : Ref sig .tc := ⟨.hbm, 464, rfl⟩
abbrev main_v259 : Ref sig .tc := ⟨.hbm, 465, rfl⟩
abbrev main_v260 : Ref sig .tc := ⟨.hbm, 466, rfl⟩
abbrev main_v261 : Ref sig .tc := ⟨.hbm, 467, rfl⟩
abbrev main_cst_47 : Ref sig .tc := ⟨.hbm, 468, rfl⟩
abbrev main_v262 : Ref sig .tc := ⟨.hbm, 469, rfl⟩
abbrev main_v263 : Ref sig .tc := ⟨.hbm, 470, rfl⟩
abbrev main_v264 : Ref sig .tc := ⟨.hbm, 471, rfl⟩
abbrev main_v265 : Ref sig .tc := ⟨.hbm, 472, rfl⟩
abbrev main_cst_48 : Ref sig .tc := ⟨.hbm, 473, rfl⟩
abbrev main_v266 : Ref sig .tc := ⟨.hbm, 474, rfl⟩
abbrev main_v267 : Ref sig .tc := ⟨.hbm, 475, rfl⟩
abbrev main_cst_49 : Ref sig .tc := ⟨.hbm, 476, rfl⟩
abbrev main_v268 : Ref sig .tc := ⟨.hbm, 477, rfl⟩
abbrev main_v269 : Ref sig .tc := ⟨.hbm, 478, rfl⟩
abbrev main_v270 : Ref sig .tc := ⟨.hbm, 479, rfl⟩
abbrev main_v271 : Ref sig .tc := ⟨.hbm, 480, rfl⟩
abbrev main_v272 : Ref sig .tc := ⟨.hbm, 481, rfl⟩
abbrev main_v273 : Ref sig .tc := ⟨.hbm, 482, rfl⟩
abbrev main_v274 : Ref sig .tc := ⟨.hbm, 483, rfl⟩
abbrev main_v275 : Ref sig .tc := ⟨.hbm, 484, rfl⟩
abbrev main_v276 : Ref sig .tc := ⟨.hbm, 485, rfl⟩
abbrev main_v277 : Ref sig .tc := ⟨.hbm, 486, rfl⟩
abbrev main_v278 : Ref sig .tc := ⟨.hbm, 487, rfl⟩
abbrev main_v279 : Ref sig .tc := ⟨.hbm, 488, rfl⟩
abbrev main_v280 : Ref sig .tc := ⟨.hbm, 489, rfl⟩
abbrev main_v281 : Ref sig .tc := ⟨.hbm, 490, rfl⟩
abbrev main_v282 : Ref sig .tc := ⟨.hbm, 491, rfl⟩
abbrev main_v283 : Ref sig .tc := ⟨.hbm, 492, rfl⟩
abbrev main_v284 : Ref sig .tc := ⟨.hbm, 493, rfl⟩
abbrev main_v285 : Ref sig .tc := ⟨.hbm, 494, rfl⟩
abbrev main_v286 : Ref sig .tc := ⟨.hbm, 495, rfl⟩
abbrev main_v287 : Ref sig .tc := ⟨.hbm, 496, rfl⟩
abbrev main_v288 : Ref sig .tc := ⟨.hbm, 497, rfl⟩
abbrev main_v289 : Ref sig .tc := ⟨.hbm, 498, rfl⟩
abbrev main_v290 : Ref sig .tc := ⟨.hbm, 499, rfl⟩
abbrev main_v291 : Ref sig .tc := ⟨.hbm, 500, rfl⟩
abbrev main_cst_50 : Ref sig .tc := ⟨.hbm, 501, rfl⟩
abbrev main_v292 : Ref sig .tc := ⟨.hbm, 502, rfl⟩
abbrev main_v293 : Ref sig .tc := ⟨.hbm, 503, rfl⟩
abbrev main_cst_51 : Ref sig .tc := ⟨.hbm, 504, rfl⟩
abbrev main_v294 : Ref sig .tc := ⟨.hbm, 505, rfl⟩
abbrev main_v295 : Ref sig .tc := ⟨.hbm, 506, rfl⟩
abbrev main_v296 : Ref sig .tc := ⟨.hbm, 507, rfl⟩
abbrev main_v297 : Ref sig .tc := ⟨.hbm, 508, rfl⟩
abbrev main_v298 : Ref sig .tc := ⟨.hbm, 509, rfl⟩
abbrev main_cst_52 : Ref sig .tc := ⟨.hbm, 510, rfl⟩
abbrev main_v299 : Ref sig .tc := ⟨.hbm, 511, rfl⟩
abbrev main_v300 : Ref sig .tc := ⟨.hbm, 512, rfl⟩
abbrev main_cst_53 : Ref sig .tc := ⟨.hbm, 513, rfl⟩
abbrev main_v301 : Ref sig .tc := ⟨.hbm, 514, rfl⟩
abbrev main_v302 : Ref sig .tc := ⟨.hbm, 515, rfl⟩
abbrev main_v303 : Ref sig .tc := ⟨.hbm, 516, rfl⟩
abbrev main_v304 : Ref sig .tc := ⟨.hbm, 517, rfl⟩
abbrev main_v305 : Ref sig .tc := ⟨.hbm, 518, rfl⟩
abbrev main_cst_54 : Ref sig .tc := ⟨.hbm, 519, rfl⟩
abbrev main_v306 : Ref sig .tc := ⟨.hbm, 520, rfl⟩
abbrev main_v307 : Ref sig .tc := ⟨.hbm, 521, rfl⟩
abbrev main_v308 : Ref sig .tc := ⟨.hbm, 522, rfl⟩
abbrev main_v309 : Ref sig .tc := ⟨.hbm, 523, rfl⟩
abbrev main_v310 : Ref sig .tc := ⟨.hbm, 524, rfl⟩
abbrev main_cst_55 : Ref sig .tc := ⟨.hbm, 525, rfl⟩
abbrev main_v311 : Ref sig .tc := ⟨.hbm, 526, rfl⟩
abbrev main_v312 : Ref sig .tc := ⟨.hbm, 527, rfl⟩
abbrev main_cst_56 : Ref sig .tc := ⟨.hbm, 528, rfl⟩
abbrev main_v313 : Ref sig .tc := ⟨.hbm, 529, rfl⟩
abbrev main_v314 : Ref sig .tc := ⟨.hbm, 530, rfl⟩
abbrev main_c_57 : Ref sig .tc := ⟨.hbm, 531, rfl⟩
abbrev main_call8_cst : Ref sig .tc := ⟨.hbm, 532, rfl⟩
abbrev main_call8_v0 : Ref sig .tc := ⟨.hbm, 533, rfl⟩
abbrev main_call8_v1 : Ref sig .tc := ⟨.hbm, 534, rfl⟩
abbrev main_call8_cst_0 : Ref sig .tc := ⟨.hbm, 535, rfl⟩
abbrev main_call8_v2 : Ref sig .tc := ⟨.hbm, 536, rfl⟩
abbrev main_call8_v3 : Ref sig .tc := ⟨.hbm, 537, rfl⟩
abbrev main_call8_v4 : Ref sig .tc := ⟨.hbm, 538, rfl⟩
abbrev main_call8_v5 : Ref sig .tc := ⟨.hbm, 539, rfl⟩
abbrev main_call8_v6 : Ref sig .tc := ⟨.hbm, 540, rfl⟩
abbrev main_call8_v7 : Ref sig .tc := ⟨.hbm, 541, rfl⟩
abbrev main_call8_cst_1 : Ref sig .tc := ⟨.hbm, 542, rfl⟩
abbrev main_call8_v8 : Ref sig .tc := ⟨.hbm, 543, rfl⟩
abbrev main_call8_cst_2 : Ref sig .tc := ⟨.hbm, 544, rfl⟩
abbrev main_call8_v9 : Ref sig .tc := ⟨.hbm, 545, rfl⟩
abbrev main_call8_v10 : Ref sig .tc := ⟨.hbm, 546, rfl⟩
abbrev main_call8_v11 : Ref sig .tc := ⟨.hbm, 547, rfl⟩
abbrev main_call8_v12 : Ref sig .tc := ⟨.hbm, 548, rfl⟩
abbrev main_call8_cst_3 : Ref sig .tc := ⟨.hbm, 549, rfl⟩
abbrev main_call8_v13 : Ref sig .tc := ⟨.hbm, 550, rfl⟩
abbrev main_call8_cst_4 : Ref sig .tc := ⟨.hbm, 551, rfl⟩
abbrev main_call8_call0_v0 : Ref sig .tc := ⟨.hbm, 552, rfl⟩
abbrev main_call8_call0_v1 : Ref sig .tc := ⟨.hbm, 553, rfl⟩
abbrev main_v315 : Ref sig .tc := ⟨.hbm, 554, rfl⟩
abbrev main_v316 : Ref sig .tc := ⟨.hbm, 555, rfl⟩
abbrev main_v317 : Ref sig .tc := ⟨.hbm, 556, rfl⟩
abbrev main_cst_58 : Ref sig .tc := ⟨.hbm, 557, rfl⟩
abbrev main_v318 : Ref sig .tc := ⟨.hbm, 558, rfl⟩
abbrev main_v319 : Ref sig .tc := ⟨.hbm, 559, rfl⟩
abbrev main_v320 : Ref sig .tc := ⟨.hbm, 560, rfl⟩
abbrev main_v321 : Ref sig .tc := ⟨.hbm, 561, rfl⟩
abbrev main_v322 : Ref sig .tc := ⟨.hbm, 562, rfl⟩
abbrev main_v323 : Ref sig .tc := ⟨.hbm, 563, rfl⟩
abbrev main_v324 : Ref sig .tc := ⟨.hbm, 564, rfl⟩
abbrev main_v325 : Ref sig .tc := ⟨.hbm, 565, rfl⟩
abbrev main_v326 : Ref sig .tc := ⟨.hbm, 566, rfl⟩
abbrev main_v327 : Ref sig .tc := ⟨.hbm, 567, rfl⟩
abbrev main_v328 : Ref sig .tc := ⟨.hbm, 568, rfl⟩
abbrev main_v329 : Ref sig .tc := ⟨.hbm, 569, rfl⟩
abbrev main_v330 : Ref sig .tc := ⟨.hbm, 570, rfl⟩
abbrev main_v331 : Ref sig .tc := ⟨.hbm, 571, rfl⟩
abbrev main_v332 : Ref sig .tc := ⟨.hbm, 572, rfl⟩
abbrev main_call9_cst : Ref sig .tc := ⟨.hbm, 573, rfl⟩
abbrev main_call9_v0 : Ref sig .tc := ⟨.hbm, 574, rfl⟩
abbrev main_v333 : Ref sig .tc := ⟨.hbm, 575, rfl⟩
abbrev main_v334 : Ref sig .tc := ⟨.hbm, 576, rfl⟩
abbrev main_v335 : Ref sig .tc := ⟨.hbm, 577, rfl⟩
abbrev main_v336 : Ref sig .tc := ⟨.hbm, 578, rfl⟩
abbrev main_v337 : Ref sig .tc := ⟨.hbm, 579, rfl⟩
abbrev main_v338 : Ref sig .tc := ⟨.hbm, 580, rfl⟩
abbrev main_v339 : Ref sig .tc := ⟨.hbm, 581, rfl⟩
abbrev main_v340 : Ref sig .tc := ⟨.hbm, 582, rfl⟩
abbrev main_v341 : Ref sig .tc := ⟨.hbm, 583, rfl⟩
abbrev main_v342 : Ref sig .tc := ⟨.hbm, 584, rfl⟩
abbrev main_call10_cst : Ref sig .tc := ⟨.hbm, 585, rfl⟩
abbrev main_call10_v0 : Ref sig .tc := ⟨.hbm, 586, rfl⟩
abbrev main_v343 : Ref sig .tc := ⟨.hbm, 587, rfl⟩

abbrev nD : Nat := 1
abbrev τ : Topo := Topo.v7x

variable {F : FTy → Type} [FloatOps F]
-- ==== Proof.KernelIdealFrame.Run.lean ====
/- The run of the whole body of `KernelIdeal`'s kernel at one grid point, taken over from the generated
   module because its proof term needs a larger budget than the generator sets: the body's triple, with the pieces its
   stores leave in each output's staging memory as the witness. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x64 .f32) (harg16 : arg16.IsWhole) (arg17 : Memref sig .tc .vmem S1x64 .f32) (harg17 : arg17.IsWhole) (arg18 : Memref sig .tc .vmem S64x768 .f32) (harg18 : arg18.IsWhole) (arg19 : Memref sig .tc .vmem S1x768 .f32) (harg19 : arg19.IsWhole) (arg20 : Memref sig .tc .vmem S8x10x768 .f32) (harg20 : arg20.IsWhole) (arg21 : Memref sig .tc .vmem S8x10x64 .f32) (harg21 : arg21.IsWhole) (arg22 : Memref sig .tc .vmem S8x197x128 .bf16) (harg22 : arg22.IsWhole)
    (x0 : Vec F S8x197x768 .f32) (x1 : Vec F S768x128 .bf16) (x2 : Vec F S1x128 .f32) (x3 : Vec F S1x128 .f32) (x4 : Vec F S128x64 .f32) (x5 : Vec F S64x128 .f32) (x6 : Vec F S1x128 .f32) (x7 : Vec F S1x128 .f32) (x8 : Vec F S192x128 .f32) (x9 : Vec F S192x64 .f32) (x10 : Vec F S1x192 .f32) (x11 : Vec F S1x192 .f32) (x12 : Vec F S64x128 .f32) (x13 : Vec F S1x128 .f32) (x14 : Vec F S1x128 .f32) (x15 : Vec F S128x64 .f32) (x16 : Vec F S1x64 .f32) (x17 : Vec F S64x768 .f32) (x18 : Vec F S1x768 .f32) :
    Σ' (L19 : List (View.Piece (Elt F) S8x10x768 .f32)), Σ' (L20 : List (View.Piece (Elt F) S8x10x64 .f32)), { LT0 : List (View.Piece (Elt F) S8x197x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f LT0)) -∗ K ⟨⟩))
          ⊢ wp frame (wpE (defs₀ (F := F)) Variants.none c none) E (cc0_slot_decoder i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, fun E K => ?run⟩
  case run =>
    simp only [cc0_slot_decoder_eq_skeleton]; unfold cc0_slot_decoder_skel
    simp only [k0_part23_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [H20]; · iexists _; iexact H20
    iexists _; iexact HS0

end Cert.KernelIdeal.Gen

end
-- ==== Proof.KernelIdealFrame.Frame.lean ====
/- The frame of `KernelIdeal`: what the run of the body at one grid point leaves, the proof data of the
   pipeline, the body obligation, the run of the whole program and the frame itself. Taken over from the generated module
   because it imports the run of the body, which needs a larger budget than the generator sets. -/
module

public import proofs.«01_k».proof.Proof.KernelIdealFrame.Run
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 19 tile its block (8 stores of `S1x10x768`, checked by the kernel's evaluation: Lib/Ring.lean `Piece.tiledL`, linear in the pieces, through a loop's `@[irreducible]` trip theorem too), so they cover it. -/
theorem cover0_A_19 (c : Dev nD) (i : grid0.Coords) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x64 .f32) (harg16 : arg16.IsWhole) (arg17 : Memref sig .tc .vmem S1x64 .f32) (harg17 : arg17.IsWhole) (arg18 : Memref sig .tc .vmem S64x768 .f32) (harg18 : arg18.IsWhole) (arg19 : Memref sig .tc .vmem S1x768 .f32) (harg19 : arg19.IsWhole) (arg20 : Memref sig .tc .vmem S8x10x768 .f32) (harg20 : arg20.IsWhole) (arg21 : Memref sig .tc .vmem S8x10x64 .f32) (harg21 : arg21.IsWhole) (arg22 : Memref sig .tc .vmem S8x197x128 .bf16) (harg22 : arg22.IsWhole)
    (x0 : Vec F S8x197x768 .f32) (x1 : Vec F S768x128 .bf16) (x2 : Vec F S1x128 .f32) (x3 : Vec F S1x128 .f32) (x4 : Vec F S128x64 .f32) (x5 : Vec F S64x128 .f32) (x6 : Vec F S1x128 .f32) (x7 : Vec F S1x128 .f32) (x8 : Vec F S192x128 .f32) (x9 : Vec F S192x64 .f32) (x10 : Vec F S1x192 .f32) (x11 : Vec F S1x192 .f32) (x12 : Vec F S64x128 .f32) (x13 : Vec F S1x128 .f32) (x14 : Vec F S1x128 .f32) (x15 : Vec F S128x64 .f32) (x16 : Vec F S1x64 .f32) (x17 : Vec F S64x768 .f32) (x18 : Vec F S1x768 .f32) (y : S8x10x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18).1 S1x10x768.size (by sl_kernel_rfl) y

/-- What the run leaves in output 19's staging buffer: its pieces read back over junk. -/
def out0_A_19 (c : Dev nD) (i : grid0.Coords) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x64 .f32) (harg16 : arg16.IsWhole) (arg17 : Memref sig .tc .vmem S1x64 .f32) (harg17 : arg17.IsWhole) (arg18 : Memref sig .tc .vmem S64x768 .f32) (harg18 : arg18.IsWhole) (arg19 : Memref sig .tc .vmem S1x768 .f32) (harg19 : arg19.IsWhole) (arg20 : Memref sig .tc .vmem S8x10x768 .f32) (harg20 : arg20.IsWhole) (arg21 : Memref sig .tc .vmem S8x10x64 .f32) (harg21 : arg21.IsWhole) (arg22 : Memref sig .tc .vmem S8x197x128 .bf16) (harg22 : arg22.IsWhole)
    (x0 : Vec F S8x197x768 .f32) (x1 : Vec F S768x128 .bf16) (x2 : Vec F S1x128 .f32) (x3 : Vec F S1x128 .f32) (x4 : Vec F S128x64 .f32) (x5 : Vec F S64x128 .f32) (x6 : Vec F S1x128 .f32) (x7 : Vec F S1x128 .f32) (x8 : Vec F S192x128 .f32) (x9 : Vec F S192x64 .f32) (x10 : Vec F S1x192 .f32) (x11 : Vec F S1x192 .f32) (x12 : Vec F S64x128 .f32) (x13 : Vec F S1x128 .f32) (x14 : Vec F S1x128 .f32) (x15 : Vec F S128x64 .f32) (x16 : Vec F S1x64 .f32) (x17 : Vec F S64x768 .f32) (x18 : Vec F S1x768 .f32) : Vec F S8x10x768 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18).1)

/-- The run's pieces for output 20 tile its block (8 stores of `S1x10x64`, checked by the kernel's evaluation: Lib/Ring.lean `Piece.tiledL`, linear in the pieces, through a loop's `@[irreducible]` trip theorem too), so they cover it. -/
theorem cover0_A_20 (c : Dev nD) (i : grid0.Coords) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x64 .f32) (harg16 : arg16.IsWhole) (arg17 : Memref sig .tc .vmem S1x64 .f32) (harg17 : arg17.IsWhole) (arg18 : Memref sig .tc .vmem S64x768 .f32) (harg18 : arg18.IsWhole) (arg19 : Memref sig .tc .vmem S1x768 .f32) (harg19 : arg19.IsWhole) (arg20 : Memref sig .tc .vmem S8x10x768 .f32) (harg20 : arg20.IsWhole) (arg21 : Memref sig .tc .vmem S8x10x64 .f32) (harg21 : arg21.IsWhole) (arg22 : Memref sig .tc .vmem S8x197x128 .bf16) (harg22 : arg22.IsWhole)
    (x0 : Vec F S8x197x768 .f32) (x1 : Vec F S768x128 .bf16) (x2 : Vec F S1x128 .f32) (x3 : Vec F S1x128 .f32) (x4 : Vec F S128x64 .f32) (x5 : Vec F S64x128 .f32) (x6 : Vec F S1x128 .f32) (x7 : Vec F S1x128 .f32) (x8 : Vec F S192x128 .f32) (x9 : Vec F S192x64 .f32) (x10 : Vec F S1x192 .f32) (x11 : Vec F S1x192 .f32) (x12 : Vec F S64x128 .f32) (x13 : Vec F S1x128 .f32) (x14 : Vec F S1x128 .f32) (x15 : Vec F S128x64 .f32) (x16 : Vec F S1x64 .f32) (x17 : Vec F S64x768 .f32) (x18 : Vec F S1x768 .f32) (y : S8x10x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18).2.1 S1x10x64.size (by sl_kernel_rfl) y

/-- What the run leaves in output 20's staging buffer: its pieces read back over junk. -/
def out0_A_20 (c : Dev nD) (i : grid0.Coords) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x64 .f32) (harg16 : arg16.IsWhole) (arg17 : Memref sig .tc .vmem S1x64 .f32) (harg17 : arg17.IsWhole) (arg18 : Memref sig .tc .vmem S64x768 .f32) (harg18 : arg18.IsWhole) (arg19 : Memref sig .tc .vmem S1x768 .f32) (harg19 : arg19.IsWhole) (arg20 : Memref sig .tc .vmem S8x10x768 .f32) (harg20 : arg20.IsWhole) (arg21 : Memref sig .tc .vmem S8x10x64 .f32) (harg21 : arg21.IsWhole) (arg22 : Memref sig .tc .vmem S8x197x128 .bf16) (harg22 : arg22.IsWhole)
    (x0 : Vec F S8x197x768 .f32) (x1 : Vec F S768x128 .bf16) (x2 : Vec F S1x128 .f32) (x3 : Vec F S1x128 .f32) (x4 : Vec F S128x64 .f32) (x5 : Vec F S64x128 .f32) (x6 : Vec F S1x128 .f32) (x7 : Vec F S1x128 .f32) (x8 : Vec F S192x128 .f32) (x9 : Vec F S192x64 .f32) (x10 : Vec F S1x192 .f32) (x11 : Vec F S1x192 .f32) (x12 : Vec F S64x128 .f32) (x13 : Vec F S1x128 .f32) (x14 : Vec F S1x128 .f32) (x15 : Vec F S128x64 .f32) (x16 : Vec F S1x64 .f32) (x17 : Vec F S64x768 .f32) (x18 : Vec F S1x768 .f32) : Vec F S8x10x64 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18).2.1)

/-! ## What the outputs hold after each point -/

/-- What the outputs' staging buffers hold after the body at point `t` (as a tuple, in window order): the run's contents at
    the point's memrefs and input blocks. -/
def outsAt0 (c : Dev nD) (t : Fin cfg0.N) : Vec F S8x10x768 .f32 × Vec F S8x10x64 .f32 :=
  (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt0 m c t).1
    | ⟨20, _⟩ => (outsAt0 m c t).2
    | ⟨_ + 21, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = (outsAt0 m c t).1 := by dsimp only [dats]
theorem after0_20 (c : Dev nD) (t : Fin cfg0.N) : (dats m 0 c).after 20 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  rw [show (dats m 0 c).Φ t.castSucc = Pipeline.ΦA spec0 c from rfl, PhiA0_eq]
  unfold outsAt0
  unfold out0_A_19 out0_A_20; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((kernelRun0_A c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [HS0]; · iexact HS0
  iintro ⟨H0, H1, H2, H3, H4, H5, H6, H7, H8, H9, H10, H11, H12, H13, H14, H15, H16, H17, H18, ⟨%e19, H19⟩, ⟨%e20, H20⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H20
  ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (unchanged m ρ) ((θ_run defs _ _).mono (fun _ h => h.2) (run_main_quiescent m ρ))

end Cert.KernelIdeal.Gen

end
-- ==== Proof.KernelIdealFrame.Value.lean ====
/- What `KernelIdeal`'s output arrays hold block by block after the run. Taken over from the generated
   module because it imports the frame, which was taken over. -/
module

public import proofs.«01_k».proof.Proof.KernelIdealFrame.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 19's array: the run's contents for that window after the body (`Gen.outsAt0`: its component 0), read through the window's block. -/
theorem flushed19 (c : Dev nD) (t : Fin cfg0.N) :
    (dats m 0 c).flushed 19 t = (cfg0.win 19).cut (grid0.coords t) ((outsAt0 m c t).1) := by
  show (cfg0.win 19).cut (grid0.coords t) ((dats m 0 c).after 19 t) = _
  rw [after0_19]

/-- … so at a point where case A runs, what its write-back would write is that case's NAMED TERM for the window (`Gen.out0_A_19`: the pieces
    its run found, read back) at the point's memrefs and input blocks, and for an output the case reads back what the point before left (`Gen.outsAt0` at `t - 1`) — the kernel's one case, `Gen.outsAt0` by definition. -/
theorem flushed19_A (c : Dev nD) (t : Fin cfg0.N) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) := by
  simp only [flushed19, outsAt0]

/-- The index map sends distinct grid points to distinct block indices (decided over the 32 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S256x10x768.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the run's contents for that window after the body (`Gen.outsAt0`: its component 1), read through the window's block. -/
theorem flushed20 (c : Dev nD) (t : Fin cfg0.N) :
    (dats m 0 c).flushed 20 t = (cfg0.win 20).cut (grid0.coords t) ((outsAt0 m c t).2) := by
  show (cfg0.win 20).cut (grid0.coords t) ((dats m 0 c).after 20 t) = _
  rw [after0_20]

/-- … so at a point where case A runs, what its write-back would write is that case's NAMED TERM for the window (`Gen.out0_A_20`: the pieces
    its run found, read back) at the point's memrefs and input blocks, and for an output the case reads back what the point before left (`Gen.outsAt0` at `t - 1`) — the kernel's one case, `Gen.outsAt0` by definition. -/
theorem flushed20_A (c : Dev nD) (t : Fin cfg0.N) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) := by
  simp only [flushed20, outsAt0]

/-- The index map sends distinct grid points to distinct block indices (decided over the 32 points). -/
theorem idx_inj20 : ∀ t t' : Fin cfg0.N, win0_20.index t = win0_20.index t' → t = t' :=
  (by decide +kernel : ∀ t t' : Fin grid0.N, win0_20.index t = win0_20.index t' → t = t')

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S256x10x64.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v43_0) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v43_1) = (dats m 0 c).arrAt 20 cfg0.N :=
  (h c).1 20

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: input window 9 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 9).trans (((dats m 0 c).arrAt_in 9 rfl _).trans ((A_eq m c 9).trans (V_main_arg10 m c)))

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: input window 15 stages it and never writes it back. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).1 15).trans (((dats m 0 c).arrAt_in 15 rfl _).trans ((A_eq m c 15).trans (V_main_arg17 m c)))

/-- After the frame run, argument `main_arg18` is as launched: no window stages it, and the run leaves the region's other buffers as they were. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

/-- After the frame run, argument `main_arg19` is as launched: input window 17 stages it and never writes it back. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).1 17).trans (((dats m 0 c).arrAt_in 17 rfl _).trans ((A_eq m c 17).trans (V_main_arg19 m c)))

/-- After the frame run, argument `main_arg20` is as launched: no window stages it, and the run leaves the region's other buffers as they were. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v43_0) = (dats m 0 c).arrAt 19 cfg0.N
      ∧ r.2.mem ((c : Thread nD τ).loc main_v43_1) = (dats m 0 c).arrAt 20 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨post19 m r h c,
      post20 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c⟩)
    (run_main m ρ)

end Cert.KernelIdeal.Value

end
-- ==== Proof.Model.lean ====
/- The mathematics of the slot decoder, its slots real and its attention of extended reals, and the laws that carry a value of the idealized programs
   back to it: what the programs' float constants denote, and how the extended reals' operations act on real arguments. -/
module

public import Idealize.ShloMosaic.PureOps.Ideal
public import Idealize.ShloMosaic.PureOps.IdealRules
public import Idealize.ShloMosaic.Lib.Pointwise

@[expose] public section

noncomputable section

namespace Cert.Model

open Idealize.ShloMosaic

/-! ### The constants -/

/-- What is added to a variance before its root. -/
def eps : ℝ := 10995116 / 2 ^ 40

/-- What is added to an attention weight. -/
def delta : ℝ := 11258999 / 2 ^ 50

/-- The variance's addend is positive. -/
theorem eps_pos : 0 < eps := by unfold eps; positivity

/-- The word of the variance's addend. -/
theorem bits_eps : Ideal.ofBits .f32 0x3727C5AC#32 = ((eps : ℝ) : EReal) := by
  simp [Ideal.ofBits, Ideal.ieee, eps, -EReal.coe_mul]; norm_num

/-- The word of the attention's addend. -/
theorem bits_delta : Ideal.ofBits .f32 0x322BCC77#32 = ((delta : ℝ) : EReal) := by
  simp [Ideal.ofBits, Ideal.ieee, delta, -EReal.coe_mul]; norm_num

/-- The word of 768. -/
theorem bits_768 : Ideal.ofBits .f32 0x44400000#32 = ((768 : ℝ) : EReal) := by
  simp [Ideal.ofBits, Ideal.ieee, -EReal.coe_mul]; norm_num

/-- The word of 64. -/
theorem bits_64 : Ideal.ofBits .f32 0x42800000#32 = ((64 : ℝ) : EReal) := by
  simp [Ideal.ofBits, Ideal.ieee, -EReal.coe_mul]; norm_num

/-- The word of one eighth. -/
theorem bits_eighth : Ideal.ofBits .f32 0x3E000000#32 = ((1 / 8 : ℝ) : EReal) := by
  simp [Ideal.ofBits, Ideal.ieee, -EReal.coe_mul]; norm_num

/-- The word of minus infinity. -/
theorem bits_bot : Ideal.ofBits .f32 0xFF800000#32 = (⊥ : EReal) := by
  simp [Ideal.ofBits, Ideal.ieee]

/-- The word of plus infinity. -/
theorem bits_top : Ideal.ofBits .f32 0x7F800000#32 = (⊤ : EReal) := by
  simp [Ideal.ofBits, Ideal.ieee]

/-! ### Operations on real arguments -/

/-- A sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A quotient of reals. -/
theorem div_real (x : ℝ) {y : ℝ} (h : y ≠ 0) : Ideal.div (x : EReal) (y : EReal) = ((x / y : ℝ) : EReal) := by
  rw [Ideal.div_coe h, ← EReal.coe_mul, mul_one_div]

/-- The reciprocal root of a positive real. -/
theorem rsqrt_real {x : ℝ} (h : 0 < x) : Ideal.rsqrt (x : EReal) = (((Real.sqrt x)⁻¹ : ℝ) : EReal) := by
  rw [Ideal.rsqrt_coe, if_neg (not_lt.mpr h.le), if_neg h.ne']

/-- The root of a nonnegative real. -/
theorem sqrt_real {x : ℝ} (h : 0 ≤ x) : Ideal.sqrt (x : EReal) = ((Real.sqrt x : ℝ) : EReal) := by
  rw [Ideal.sqrt_coe, if_neg (not_lt.mpr h)]

/-- The larger of two reals. -/
theorem max_real (x y : ℝ) : max (x : EReal) (y : EReal) = ((max x y : ℝ) : EReal) :=
  (Monotone.map_max (fun _ _ h => EReal.coe_le_coe_iff.mpr h)).symm

/-- A real distributes over a real and any extended real. -/
theorem add_mul_real (a w : ℝ) (b : EReal) : ((a : EReal) + b) * (w : EReal) = ((a * w : ℝ) : EReal) + b * (w : EReal) := by
  induction b with
  | coe r => rw [← EReal.coe_add, ← EReal.coe_mul, ← EReal.coe_mul, ← EReal.coe_add, add_mul]
  | top =>
    rw [EReal.coe_add_top]
    rcases lt_trichotomy w 0 with h | h | h
    · rw [EReal.top_mul_coe_of_neg h, EReal.add_bot]
    · rw [h]; simp
    · rw [EReal.top_mul_coe_of_pos h, EReal.coe_add_top]
  | bot =>
    rw [EReal.add_bot]
    rcases lt_trichotomy w 0 with h | h | h
    · rw [EReal.bot_mul_coe_of_neg h, EReal.coe_add_top]
    · rw [h]; simp
    · rw [EReal.bot_mul_coe_of_pos h, EReal.add_bot]

/-- A nonnegative real distributes over any sum. -/
theorem sum_mul_real {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s h ih =>
    rw [Finset.sum_insert h, Finset.sum_insert h,
      EReal.right_distrib_of_nonneg_of_ne_top (EReal.coe_nonneg.mpr hc) (EReal.coe_ne_top c), ih]

/-! ### Layer norm -/

/-- The mean of a row. -/
def mean {n : Nat} (x : Fin n → ℝ) : ℝ := (∑ k, x k) / n

/-- The mean square distance of a row from its mean. -/
def vari {n : Nat} (x : Fin n → ℝ) : ℝ := (∑ k, (x k - mean x) * (x k - mean x)) / n

/-- Layer norm of a row, scaled by `g` and shifted by `b`. -/
def ln {n : Nat} (x g b : Fin n → ℝ) (j : Fin n) : ℝ := (x j - mean x) / Real.sqrt (vari x + eps) * g j + b j

/-- Layer norm of a row of reals, shifted by extended reals. -/
def lnE {n : Nat} (x g : Fin n → ℝ) (b : Fin n → EReal) (j : Fin n) : EReal := ((ln x g (fun _ => 0) j : ℝ) : EReal) + b j

/-- A shift by reals gives the layer norm of reals. -/
theorem lnE_coe {n : Nat} (x g b : Fin n → ℝ) (j : Fin n) : lnE x g (fun k => (b k : EReal)) j = ((ln x g b j : ℝ) : EReal) := by
  unfold lnE ln
  rw [← EReal.coe_add, add_zero]

/-- The mean square distance is not negative. -/
theorem vari_nonneg {n : Nat} (x : Fin n → ℝ) : 0 ≤ vari x :=
  div_nonneg (Finset.sum_nonneg fun k _ => mul_self_nonneg _) (Nat.cast_nonneg n)

/-- The mean square distance is the mean square less the square of the mean. -/
theorem vari_eq {n : Nat} (hn : 0 < n) (x : Fin n → ℝ) : vari x = (∑ k, x k * x k) / n - mean x * mean x := by
  have h : (n : ℝ) ≠ 0 := Nat.cast_ne_zero.mpr hn.ne'
  have hs : ∑ k, x k = mean x * n := by unfold mean; field_simp
  have : ∑ k, (x k - mean x) * (x k - mean x) = (∑ k, x k * x k) - mean x * mean x * n := by
    have e : ∀ k, (x k - mean x) * (x k - mean x) = x k * x k - 2 * mean x * x k + mean x * mean x := fun k => by ring
    simp only [e, Finset.sum_add_distrib, Finset.sum_sub_distrib, ← Finset.mul_sum, hs, Finset.sum_const, Finset.card_univ,
      Fintype.card_fin, nsmul_eq_mul]
    ring
  unfold vari
  rw [this]
  field_simp

/-- What stands under the kernel's reciprocal root is positive. -/
theorem under_pos {n : Nat} (hn : 0 < n) (x : Fin n → ℝ) : 0 < (∑ k, x k * x k) / n - mean x * mean x + eps := by
  rw [← vari_eq hn]; exact add_pos_of_nonneg_of_pos (vari_nonneg x) eps_pos

/-- A layer norm followed by a product with a weight column, as the kernel computes it: the mean and the scale are taken
    out of the sum. -/
theorem ln_folded {n : Nat} (hn : 0 < n) (x g b w : Fin n → ℝ) :
    (Real.sqrt ((∑ k, x k * x k) / n - mean x * mean x + eps))⁻¹ * (∑ k, x k * (g k * w k))
      - mean x * (Real.sqrt ((∑ k, x k * x k) / n - mean x * mean x + eps))⁻¹ * (∑ k, g k * w k) + ∑ k, b k * w k
      = ∑ k, ln x g b k * w k := by
  rw [← vari_eq hn]
  unfold ln
  generalize (Real.sqrt (vari x + eps)) = s
  rw [Finset.mul_sum, Finset.mul_sum, ← Finset.sum_sub_distrib, ← Finset.sum_add_distrib]
  refine Finset.sum_congr rfl fun k _ => ?_
  rw [div_eq_mul_inv]
  ring

/-- The same with a shift by extended reals, which enters by its own sum alone. -/
theorem lnE_sum {n : Nat} (x g w : Fin n → ℝ) (b : Fin n → EReal) :
    ((∑ k, ln x g (fun _ => 0) k * w k : ℝ) : EReal) + ∑ k, b k * (w k : EReal) = ∑ k, lnE x g b k * (w k : EReal) := by
  rw [coe_sum, ← Finset.sum_add_distrib]
  exact Finset.sum_congr rfl fun k _ => (add_mul_real _ _ _).symm

/-! ### The attention -/

/-- The largest fit of a column. -/
def top (d : Fin 10 → EReal) : EReal := Finset.univ.fold max ⊥ d

/-- The exponential of a fit less its column's largest. -/
def expd (d : Fin 10 → EReal) (s : Fin 10) : EReal := Ideal.exp (d s - top d)

/-- The weight of slot `s` at feature row `n`: its share among the slots, and a little more. -/
def att (d : Fin 10 → Fin 197 → EReal) (s : Fin 10) (n : Fin 197) : EReal :=
  Ideal.div (expd (fun t => d t n) s) (∑ u, expd (fun t => d t n) u) + (delta : EReal)

/-- A row divided by its sum. -/
def share {n : Nat} (a : Fin n → EReal) (k : Fin n) : EReal := Ideal.div (a k) (∑ l, a l)

/-! ### The update of one slot -/

/-- The logistic function, real at every extended real. -/
def sig (x : EReal) : ℝ := EReal.toReal (Ideal.logistic x)

/-- The hyperbolic tangent, real at every extended real. -/
def th (x : EReal) : ℝ := EReal.toReal (Ideal.tanh x)

/-- The programs' logistic function is that real. -/
theorem logistic_eq (x : EReal) : Ideal.logistic x = ((sig x : ℝ) : EReal) := by
  unfold sig
  induction x with
  | coe r => rw [Ideal.logistic_coe, EReal.toReal_coe]
  | top => simp
  | bot => simp

/-- The programs' hyperbolic tangent is that real. -/
theorem tanh_eq (x : EReal) : Ideal.tanh x = ((th x : ℝ) : EReal) := by
  unfold th
  induction x with
  | coe r => rw [Ideal.tanh_coe, EReal.toReal_coe]
  | top => simp
  | bot => simp

/-- The first third of 192, as an index. -/
def i0 (d : Fin 64) : Fin 192 := ⟨d.val, by omega⟩
/-- The second third of 192. -/
def i1 (d : Fin 64) : Fin 192 := ⟨64 + d.val, by omega⟩
/-- The last third of 192. -/
def i2 (d : Fin 64) : Fin 192 := ⟨128 + d.val, by omega⟩

/-- The gate of a slot's old value. -/
def gateZ (gx gh : Fin 192 → EReal) (d : Fin 64) : ℝ := sig (gx (i1 d) + gh (i1 d))

/-- A slot's candidate value. -/
def cand (gx gh : Fin 192 → EReal) (d : Fin 64) : ℝ := th (gx (i2 d) + (sig (gx (i0 d) + gh (i0 d)) : EReal) * gh (i2 d))

/-- The gated recurrent unit's new value, from its two products and the old value. -/
def gru (gx gh : Fin 192 → EReal) (prev : Fin 64 → ℝ) (d : Fin 64) : ℝ :=
  (1 - gateZ gx gh d) * cand gx gh d + gateZ gx gh d * prev d

/-- The program's arguments: reals where a layer norm is folded into them or follows them, extended reals elsewhere. -/
structure Par where
  /-- scale of the features' norm -/
  gi : Fin 768 → ℝ
  /-- shift of the features' norm -/
  bi : Fin 768 → EReal
  /-- the slots at first -/
  s0 : Fin 10 → Fin 64 → ℝ
  /-- scale of the slots' norm -/
  gs : Fin 64 → ℝ
  /-- shift of the slots' norm -/
  bs : Fin 64 → EReal
  /-- query weights -/
  Wq : Fin 64 → Fin 64 → ℝ
  /-- key weights -/
  Wk : Fin 768 → Fin 64 → ℝ
  /-- value weights -/
  Wv : Fin 768 → Fin 64 → ℝ
  /-- input weights of the recurrent unit -/
  Wih : Fin 192 → Fin 64 → EReal
  /-- state weights of the recurrent unit -/
  Whh : Fin 192 → Fin 64 → EReal
  /-- input shift of the recurrent unit -/
  bih : Fin 192 → EReal
  /-- state shift of the recurrent unit -/
  bhh : Fin 192 → EReal
  /-- scale of the last norm -/
  gm : Fin 64 → ℝ
  /-- shift of the last norm -/
  bm : Fin 64 → ℝ
  /-- first layer -/
  W1 : Fin 64 → Fin 128 → ℝ
  /-- first layer's shift -/
  b1 : Fin 128 → ℝ
  /-- second layer -/
  W2 : Fin 128 → Fin 64 → ℝ
  /-- second layer's shift -/
  b2 : Fin 64 → ℝ

variable (P : Par)

/-- A slot's query. -/
def query (S : Fin 64 → ℝ) (j : Fin 64) : EReal := ∑ k, lnE S P.gs P.bs k * (P.Wq k j : EReal)

/-- A feature row's key. -/
def key (X : Fin 768 → ℝ) (j : Fin 64) : EReal := ∑ k, lnE X P.gi P.bi k * (P.Wk k j : EReal)

/-- A feature row's value. -/
def value (X : Fin 768 → ℝ) (j : Fin 64) : EReal := ∑ k, lnE X P.gi P.bi k * (P.Wv k j : EReal)

/-- The recurrent unit's product with its input. -/
def gxR (u : Fin 64 → EReal) (j : Fin 192) : EReal := (∑ d, u d * P.Wih j d) + P.bih j

/-- The recurrent unit's product with its state. -/
def ghR (S : Fin 64 → ℝ) (j : Fin 192) : EReal := (∑ d, (S d : EReal) * P.Whh j d) + P.bhh j

/-- The hidden layer. -/
def hid (y : Fin 64 → ℝ) (j : Fin 128) : ℝ := max ((∑ k, ln y P.gm P.bm k * P.W1 k j) + P.b1 j) 0

/-- The last layer, added to what it is given. -/
def mlp (y : Fin 64 → ℝ) (d : Fin 64) : ℝ := y d + ((∑ j, hid P y j * P.W2 j d) + P.b2 d)

/-- One slot's new value, from its old value and what it read. -/
def row (S : Fin 64 → ℝ) (u : Fin 64 → EReal) : Fin 64 → ℝ := mlp P (gru (gxR P u) (ghR P S) S)

/-- How well slot `s`'s query fits feature row `n`'s key. -/
def fit (X : Fin 197 → Fin 768 → ℝ) (S : Fin 10 → Fin 64 → ℝ) (s : Fin 10) (n : Fin 197) : EReal :=
  (∑ d, query P (S s) d * key P (X n) d) * ((1 / 8 : ℝ) : EReal)

/-- What slot `s` reads. -/
def read (X : Fin 197 → Fin 768 → ℝ) (S : Fin 10 → Fin 64 → ℝ) (s : Fin 10) (d : Fin 64) : EReal :=
  ∑ n, share (att (fit P X S) s) n * value P (X n) d

/-- One round: every slot's new value. -/
def step (X : Fin 197 → Fin 768 → ℝ) (S : Fin 10 → Fin 64 → ℝ) (s : Fin 10) : Fin 64 → ℝ :=
  row P (S s) (read P X S s)

/-- The slots after the three rounds. -/
def slots (X : Fin 197 → Fin 768 → ℝ) : Fin 10 → Fin 64 → ℝ := step P X (step P X (step P X P.s0))

end Cert.Model

end
-- ==== Proof.KStages.lean ====
/- The kernel's body as stages: functions of arrays, each with its value at an index. -/
module

public import proofs.«01_k».proof.Proof.Model
public import proofs.«01_k».proof.Proof.Gen.KernelIdeal

@[expose] public section

noncomputable section

namespace Cert.KernelIdeal.KVal

open Cert.KernelIdeal Cert.KernelIdeal.Gen Idealize.ShloMosaic Cert.Model

/-! ### The stages -/

/-- The keys and values of one batch element: a layer norm folded into the product with the weights. -/
def kvBlk (x : FVec Ideal S197x768 .f32) (w : FVec Ideal S768x128 .bf16) (c b : FVec Ideal S1x128 .f32) : FVec Ideal S197x128 .bf16 :=
  let m := divf (shapeCast S197x1 (multiReduction .add [1] S197 x 0x00000000#32 reduces_S197x768_S197 (.inl rfl) rfl) shapeCasts_S197_S197x1) (broadcast S197x1 (Scalar.ofBits .f32 0x44400000#32))
  let s := divf (shapeCast S197x1 (multiReduction .add [1] S197 (mulf x x) 0x00000000#32 reduces_S197x768_S197 (.inl rfl) rfl) shapeCasts_S197_S197x1) (broadcast S197x1 (Scalar.ofBits .f32 0x44400000#32))
  let r := rsqrt (addf (subf s (mulf m m)) (broadcast S197x1 (Scalar.ofBits .f32 0x3727C5AC#32)))
  truncf .bf16 (addf (subf (mulf (broadcastTo S197x128 r broadcasts_S197x1_S197x128) (matmul dot_S197x768_S768x128_S197x128_1_0_0_1_n_n none (truncf .bf16 x bitsLt_bf16_f32) w (constant S197x128 .f32 0x00000000#32))) (mulf (broadcastTo S197x128 (mulf m r) broadcasts_S197x1_S197x128) (broadcastTo S197x128 c broadcasts_S1x128_S197x128))) (broadcastTo S197x128 b broadcasts_S1x128_S197x128)) bitsLt_bf16_f32

/-- A layer norm of the slots folded into a product with weights. -/
def lnDot (x : FVec Ideal S128x64 .f32) (w : FVec Ideal S64x128 .f32) (c b : FVec Ideal S1x128 .f32) : FVec Ideal S128x128 .f32 :=
  let m := divf (shapeCast S128x1 (multiReduction .add [1] S128 x 0x00000000#32 reduces_S128x64_S128 (.inl rfl) rfl) shapeCasts_S128_S128x1) (broadcast S128x1 (Scalar.ofBits .f32 0x42800000#32))
  let s := divf (shapeCast S128x1 (multiReduction .add [1] S128 (mulf x x) 0x00000000#32 reduces_S128x64_S128 (.inl rfl) rfl) shapeCasts_S128_S128x1) (broadcast S128x1 (Scalar.ofBits .f32 0x42800000#32))
  let r := rsqrt (addf (subf s (mulf m m)) (broadcast S128x1 (Scalar.ofBits .f32 0x3727C5AC#32)))
  addf (subf (mulf (broadcastTo S128x128 r broadcasts_S128x1_S128x128) (matmul dot_S128x64_S64x128_S128x128_1_0_0_1_n_n none x w (constant S128x128 .f32 0x00000000#32))) (mulf (broadcastTo S128x128 (mulf m r) broadcasts_S128x1_S128x128) (broadcastTo S128x128 c broadcasts_S1x128_S128x128))) (broadcastTo S128x128 b broadcasts_S1x128_S128x128)

/-- Sixteen rows from row `16 b` lie in the 128. -/
theorem slices_rows (b : Fin 8) : S128x128.Slices ![16 * b.val, 0] S16x128 := by
  revert b; decide

/-- One matrix of eight lies in the eight. -/
theorem slices_mat (b : Fin 8) : S8x16x197.Slices ![b.val, 0, 0] S1x16x197 := by
  revert b; decide

/-- Batch element `b`'s fits. -/
def score (q : FVec Ideal S128x128 .bf16) (K : Fin 8 → FVec Ideal S197x128 .bf16) (b : Fin 8) : FVec Ideal S1x16x197 .f32 :=
  shapeCast S1x16x197 (matmul dot_S16x128_S197x128_S16x197_1_1_0_0_n_n none (extractStridedSlice S16x128 ![16 * b.val, 0] q (slices_rows b)) (K b) (constant S16x197 .f32 0x00000000#32)) shapeCasts_S16x197_S1x16x197

/-- Eight matrices one above the other. -/
def stack (f : Fin 8 → FVec Ideal S1x16x197 .f32) : FVec Ideal S8x16x197 .f32 :=
  concatenate S8x16x197 0 [⟨S1x16x197, f 0⟩, ⟨S1x16x197, f 1⟩, ⟨S1x16x197, f 2⟩, ⟨S1x16x197, f 3⟩, ⟨S1x16x197, f 4⟩, ⟨S1x16x197, f 5⟩, ⟨S1x16x197, f 6⟩, ⟨S1x16x197, f 7⟩] concatenates_S1x16x197_S1x16x197_S1x16x197_S1x16x197_S1x16x197_S1x16x197_S1x16x197_S1x16x197_S8x16x197_d0

/-- The fits with the padding rows at minus infinity. -/
def masked (d : FVec Ideal S8x16x197 .f32) : FVec Ideal S8x16x197 .f32 :=
  select (broadcastTo S8x16x197 (shapeCast S1x16x1 (cmpi .sge (iota .tc S1x16x1 32 [1] iota_S1x16x1_d1_w32) (broadcast S1x16x1 10#32)) shapeCasts_S1x16x1_S1x16x1) broadcasts_S1x16x1_S8x16x197) (broadcast S8x16x197 (Named.named κ "mask" 0xF149F2CA#32)) d

/-- The exponentials, each less its column's largest. -/
def expo (d : FVec Ideal S8x16x197 .f32) : FVec Ideal S8x16x197 .f32 :=
  exp (subf d (broadcastTo S8x16x197 (shapeCast S8x1x197 (multiReduction .maximumf [1] S8x197 d 0xFF800000#32 reduces_S8x16x197_S8x197 (.inl rfl) rfl) shapeCasts_S8x197_S8x1x197) broadcasts_S8x1x197_S8x16x197))

/-- The attention weights before their rows are divided by their sums. -/
def weig (e : FVec Ideal S8x16x197 .f32) : FVec Ideal S8x16x197 .f32 :=
  addf (divf e (broadcastTo S8x16x197 (shapeCast S8x1x197 (multiReduction .add [1] S8x197 e 0x00000000#32 reduces_S8x16x197_S8x197 (.inl rfl) rfl) shapeCasts_S8x197_S8x1x197) broadcasts_S8x1x197_S8x16x197)) (broadcast S8x16x197 (Scalar.ofBits .f32 0x322BCC77#32))

/-- The rows divided by their sums. -/
def norm (a : FVec Ideal S8x16x197 .f32) : FVec Ideal S8x16x197 .bf16 :=
  truncf .bf16 (divf a (broadcastTo S8x16x197 (shapeCast S8x16x1 (multiReduction .add [2] S8x16 a 0x00000000#32 reduces_S8x16x197_S8x16 (.inl rfl) rfl) shapeCasts_S8x16_S8x16x1) broadcasts_S8x16x1_S8x16x197)) bitsLt_bf16_f32

/-- What batch element `b`'s slots read. -/
def reads (a : FVec Ideal S8x16x197 .bf16) (K : Fin 8 → FVec Ideal S197x128 .bf16) (b : Fin 8) : FVec Ideal S16x128 .f32 :=
  matmul dot_S16x197_S197x128_S16x128_1_0_0_1_n_n none (shapeCast S16x197 (extractStridedSlice S1x16x197 ![b.val, 0, 0] a (slices_mat b)) shapeCasts_S1x16x197_S16x197) (K b) (constant S16x128 .f32 0x00000000#32)

/-- Eight blocks of rows one above the other. -/
def rows (f : Fin 8 → FVec Ideal S16x128 .f32) : FVec Ideal S128x128 .f32 :=
  concatenate S128x128 0 [⟨S16x128, f 0⟩, ⟨S16x128, f 1⟩, ⟨S16x128, f 2⟩, ⟨S16x128, f 3⟩, ⟨S16x128, f 4⟩, ⟨S16x128, f 5⟩, ⟨S16x128, f 6⟩, ⟨S16x128, f 7⟩] concatenates_S16x128_S16x128_S16x128_S16x128_S16x128_S16x128_S16x128_S16x128_S128x128_d0

/-- The recurrent unit's product with what the slots read. -/
def gx (u : FVec Ideal S128x128 .f32) (w : FVec Ideal S192x128 .f32) (b : FVec Ideal S1x192 .f32) : FVec Ideal S128x192 .f32 :=
  addf (matmul dot_S128x128_S192x128_S128x192_1_1_0_0_n_n none u w (constant S128x192 .f32 0x00000000#32)) (broadcastTo S128x192 b broadcasts_S1x192_S128x192)

/-- The recurrent unit's product with its state. -/
def gh (s : FVec Ideal S128x64 .f32) (w : FVec Ideal S192x64 .f32) (b : FVec Ideal S1x192 .f32) : FVec Ideal S128x192 .f32 :=
  addf (matmul dot_S128x64_S192x64_S128x192_1_1_0_0_n_n none s w (constant S128x192 .f32 0x00000000#32)) (broadcastTo S128x192 b broadcasts_S1x192_S128x192)

/-- The recurrent unit's result. -/
def unit (x h : FVec Ideal S128x192 .f32) (s : FVec Ideal S128x64 .f32) : FVec Ideal S128x64 .f32 :=
  let r := logistic (addf (extractStridedSlice S128x64 ![0, 0] x slices_S128x192_o0_0_S128x64) (extractStridedSlice S128x64 ![0, 0] h slices_S128x192_o0_0_S128x64))
  let z := logistic (addf (extractStridedSlice S128x64 ![0, 64] x slices_S128x192_o0_64_S128x64) (extractStridedSlice S128x64 ![0, 64] h slices_S128x192_o0_64_S128x64))
  addf (mulf (subf (broadcast S128x64 (Scalar.ofBits .f32 0x3F800000#32)) z) (tanh (addf (extractStridedSlice S128x64 ![0, 128] x slices_S128x192_o0_128_S128x64) (mulf r (extractStridedSlice S128x64 ![0, 128] h slices_S128x192_o0_128_S128x64))))) (mulf z s)

/-- The last layers, added to what they are given. -/
def last (y : FVec Ideal S128x64 .f32) (w1 : FVec Ideal S64x128 .f32) (c1 b1 : FVec Ideal S1x128 .f32) (w2 : FVec Ideal S128x64 .f32) (b2 : FVec Ideal S1x64 .f32) : FVec Ideal S128x64 .f32 :=
  addf (addf y (matmul dot_S128x128_S128x64_S128x64_1_0_0_1_n_n none (maximumf (lnDot y w1 c1 b1) (broadcast S128x128 (Scalar.ofBits .f32 0x00000000#32))) w2 (constant S128x64 .f32 0x00000000#32))) (broadcastTo S128x64 b2 broadcasts_S1x64_S128x64)

/-- The decoder's projection. -/
def proj2 (s : FVec Ideal S128x64 .f32) (w : FVec Ideal S64x768 .f32) (b : FVec Ideal S1x768 .f32) : FVec Ideal S128x768 .f32 :=
  maximumf (addf (matmul dot_S128x64_S64x768_S128x768_1_0_0_1_n_n none s w (constant S128x768 .f32 0x00000000#32)) (broadcastTo S128x768 b broadcasts_S1x768_S128x768)) (broadcast S128x768 (Scalar.ofBits .f32 0x00000000#32))

/-- One round: the slots' new values. -/
def round (K : Fin 8 → FVec Ideal S197x128 .bf16) (wq : FVec Ideal S64x128 .f32) (cq bq : FVec Ideal S1x128 .f32)
    (wih : FVec Ideal S192x128 .f32) (whh : FVec Ideal S192x64 .f32) (bih bhh : FVec Ideal S1x192 .f32)
    (w1 : FVec Ideal S64x128 .f32) (c1 b1 : FVec Ideal S1x128 .f32) (w2 : FVec Ideal S128x64 .f32) (b2 : FVec Ideal S1x64 .f32)
    (s : FVec Ideal S128x64 .f32) : FVec Ideal S128x64 .f32 :=
  last (unit (gx (rows (reads (norm (weig (expo (masked (stack (score (truncf .bf16 (lnDot s wq cq bq) bitsLt_bf16_f32) K)))))) K)) wih bih)
    (gh s whh bhh) s) w1 c1 b1 w2 b2

/-! ### The stages at an index -/

/-- Row `t` of batch element `b`, among the 128. -/
def rowIx (b : Fin 8) (t : Fin 16) : Fin 128 := ⟨16 * b.val + t.val, by omega⟩

/-- A first row among the sixteen. -/
def up (t : Fin 10) : Fin 16 := ⟨t.val, by omega⟩

/-- One of the first 64 columns. -/
def lo (d : Fin 64) : Fin 128 := ⟨d.val, by omega⟩

/-- One of the last 64 columns. -/
def hi (d : Fin 64) : Fin 128 := ⟨64 + d.val, by omega⟩

/-- A sum over 128 columns, as the two halves' sums. -/
theorem sum_halves (f : Fin 128 → EReal) : ∑ j, f j = (∑ d, f (lo d)) + ∑ d, f (hi d) :=
  Fin.sum_univ_add (M := EReal) (a := 64) (b := 64) f

/-- A sum over sixteen rows that vanishes from the tenth on. -/
theorem sum_ten (f : Fin 16 → EReal) (h : ∀ t : Fin 16, ¬ t.val < 10 → f t = 0) : ∑ t, f t = ∑ t, f (up t) := by
  have e : ∑ t, f t = (∑ t : Fin 10, f (Fin.castAdd 6 t)) + ∑ t : Fin 6, f (Fin.natAdd 10 t) := Fin.sum_univ_add (M := EReal) (a := 10) (b := 6) f
  rw [e, Finset.sum_eq_zero (s := Finset.univ) (f := fun t : Fin 6 => f (Fin.natAdd 10 t)) fun t _ => h _ (by simp), add_zero]
  rfl

/-- A maximum over sixteen rows that are minus infinity from the tenth on is the ten rows' maximum. -/
theorem max_ten (f : Fin 16 → EReal) : Finset.univ.fold max ⊥ (fun t : Fin 16 => if t.val < 10 then f t else ⊥) = top fun t => f (up t) := by
  unfold top
  refine le_antisymm ?_ ?_
  · rw [Finset.fold_max_le]
    refine ⟨bot_le, fun t _ => ?_⟩
    split
    next h => exact (Finset.le_fold_max _).2 (Or.inr ⟨⟨t.val, h⟩, Finset.mem_univ _, le_rfl⟩)
    next => exact bot_le
  · rw [Finset.fold_max_le]
    refine ⟨bot_le, fun t _ => (Finset.le_fold_max _).2 (Or.inr ⟨up t, Finset.mem_univ _, ?_⟩)⟩
    rw [if_pos (show (up t).val < 10 from t.isLt)]

/-- The keys and values, of real features and weights. -/
theorem kvBlk_real {x : FVec Ideal S197x768 .f32} {w : FVec Ideal S768x128 .bf16} {c b : FVec Ideal S1x128 .f32} {n : Fin 197} {j : Fin 128}
    {X g W : Fin 768 → ℝ} {β : Fin 768 → EReal} (hx : ∀ k, x (ix2 n k) = ((X k : ℝ) : EReal)) (hw : ∀ k, w (ix2 k j) = ((g k * W k : ℝ) : EReal))
    (hc : c (ix2 0 j) = ((∑ k, g k * W k : ℝ) : EReal)) (hb : b (ix2 0 j) = ∑ k, β k * (W k : EReal)) :
    kvBlk x w c b (ix2 n j) = ∑ k, lnE X g β k * (W k : EReal) := by
  have hp := under_pos (n := 768) (by norm_num) X
  have hl := ln_folded (n := 768) (by norm_num) X g (fun _ => 0) W
  unfold mean at hp hl
  simp only [Nat.cast_ofNat, zero_mul, Finset.sum_const_zero, add_zero] at hp hl
  pointwise [kvBlk, bits_768, bits_eps]
  simp only [hx, hw, hc, hb, ← EReal.coe_mul, ← coe_sum, div_real _ (show (768 : ℝ) ≠ 0 by norm_num), ← EReal.coe_sub, ← EReal.coe_add]
  rw [rsqrt_real hp]
  simp only [← EReal.coe_mul, ← EReal.coe_sub]
  rw [hl, lnE_sum]

/-- A layer norm of the slots folded into a product, of real slots and weights. -/
theorem lnDot_real {x : FVec Ideal S128x64 .f32} {w : FVec Ideal S64x128 .f32} {c b : FVec Ideal S1x128 .f32} {n j : Fin 128}
    {X g W : Fin 64 → ℝ} {B : EReal} {β : Fin 64 → EReal} (hx : ∀ k, x (ix2 n k) = ((X k : ℝ) : EReal)) (hw : ∀ k, w (ix2 k j) = ((g k * W k : ℝ) : EReal))
    (hc : c (ix2 0 j) = ((∑ k, g k * W k : ℝ) : EReal)) (hb : b (ix2 0 j) = (∑ k, β k * (W k : EReal)) + B) :
    lnDot x w c b (ix2 n j) = (∑ k, lnE X g β k * (W k : EReal)) + B := by
  have hp := under_pos (n := 64) (by norm_num) X
  have hl := ln_folded (n := 64) (by norm_num) X g (fun _ => 0) W
  unfold mean at hp hl
  simp only [Nat.cast_ofNat, zero_mul, Finset.sum_const_zero, add_zero] at hp hl
  pointwise [lnDot, bits_64, bits_eps]
  simp only [hx, hw, hc, hb, ← EReal.coe_mul, ← coe_sum, div_real _ (show (64 : ℝ) ≠ 0 by norm_num), ← EReal.coe_sub, ← EReal.coe_add]
  rw [rsqrt_real hp]
  simp only [← EReal.coe_mul, ← EReal.coe_sub]
  rw [hl, ← add_assoc, lnE_sum]

/-- The fits. -/
theorem score_read {q : FVec Ideal S128x128 .bf16} {K : Fin 8 → FVec Ideal S197x128 .bf16} {b : Fin 8} {t : Fin 16} {n : Fin 197}
    {Q R : Fin 128 → EReal} (hq : ∀ j, q (ix2 (rowIx b t) j) = Q j) (hK : ∀ j, K b (ix2 n j) = R j) :
    score q K b (ix3 0 t n) = ∑ j, Q j * R j := by
  unfold rowIx at hq
  pointwise [score]
  simp only [hq, hK]

/-- The stack's matrix `b`. -/
theorem stack_apply (f : Fin 8 → FVec Ideal S1x16x197 .f32) (b : Fin 8) (t : Fin 16) (n : Fin 197) : stack f (ix3 b t n) = f b (ix3 0 t n) := by
  have e : stack f = concatenate S8x16x197 0 (List.ofFn fun b : Fin 8 => (⟨S1x16x197, f b⟩ : (s : Shape) × (s.Idx → Ideal .f32))) concatenates_S1x16x197_S1x16x197_S1x16x197_S1x16x197_S1x16x197_S1x16x197_S1x16x197_S1x16x197_S8x16x197_d0 := rfl
  rw [e]
  refine concatenate_ofFn_apply (t := S8x16x197) 0 f _ rfl 1 rfl (ix3 b t n) b (Nat.div_one _) (ix3 0 t n) (Nat.mod_one _).symm fun a ha => ?_
  fin_cases a
  · exact absurd rfl ha
  · rfl
  · rfl

/-- The rows of block `b`. -/
theorem rows_apply (f : Fin 8 → FVec Ideal S16x128 .f32) (b : Fin 8) (t : Fin 16) (n : Fin 128) : rows f (ix2 (rowIx b t) n) = f b (ix2 t n) := by
  have e : rows f = concatenate S128x128 0 (List.ofFn fun b : Fin 8 => (⟨S16x128, f b⟩ : (s : Shape) × (s.Idx → Ideal .f32))) concatenates_S16x128_S16x128_S16x128_S16x128_S16x128_S16x128_S16x128_S16x128_S128x128_d0 := rfl
  rw [e]
  refine concatenate_ofFn_apply (t := S128x128) 0 f _ rfl 16 rfl (ix2 (rowIx b t) n) b ?_ (ix2 t n) ?_ fun a ha => ?_
  · show (16 * b.val + t.val) / 16 = b.val
    omega
  · show t.val = (16 * b.val + t.val) % 16
    omega
  · fin_cases a
    · exact absurd rfl ha
    · rfl

/-- The mask's value is minus infinity. -/
theorem mask_bot : (Named.named κ "mask" 0xF149F2CA#32 : Ideal .f32) = (⊥ : EReal) :=
  IdealRules.named_const.ideal_named_scalar _ _ _ _ rfl

/-- Which rows the mask takes away. -/
theorem mask_ge (t : Fin 16) : IntOp.cmpi CmpIPredicate.sge (BitVec.ofNat 32 t.val) 10#32 = if t.val < 10 then 0#1 else 1#1 := by
  revert t; decide

/-- The masked fits. -/
theorem masked_apply (d : FVec Ideal S8x16x197 .f32) (b : Fin 8) (t : Fin 16) (n : Fin 197) :
    masked d (ix3 b t n) = if t.val < 10 then d (ix3 b t n) else (⊥ : EReal) := by
  pointwise [masked]
  rw [mask_ge, mask_bot]
  by_cases h : t.val < 10
  · rw [if_pos h, if_pos h]; rfl
  · rw [if_neg h, if_neg h]; rfl

/-- The exponentials of masked fits: the ten rows' own, and nought where masked. -/
theorem expo_read {d : FVec Ideal S8x16x197 .f32} {b : Fin 8} {n : Fin 197} {D : Fin 16 → EReal}
    (hd : ∀ t, d (ix3 b t n) = D t) (t : Fin 16) :
    expo (masked d) (ix3 b t n) = if t.val < 10 then Ideal.exp (D t - top fun u => D (up u)) else 0 := by
  have hm : ∀ t, masked d (ix3 b t n) = if t.val < 10 then D t else ⊥ := fun t => by rw [masked_apply, hd]
  revert hm
  generalize masked d = m
  intro hm
  pointwise [expo, bits_bot]
  simp only [hm]
  rw [max_ten]
  split
  · rfl
  · rw [EReal.bot_sub]; exact Ideal.exp_bot

/-- A row's weight among the sixteen: a slot's, or the addend alone for a padding row. -/
def att16 (D : Fin 16 → Fin 197 → EReal) (t : Fin 16) (n : Fin 197) : EReal :=
  Ideal.div (if t.val < 10 then Ideal.exp (D t n - top fun u => D (up u) n) else 0) (∑ u, expd (fun u => D (up u) n) u) + (delta : EReal)

/-- The weights. -/
theorem weig_read {d : FVec Ideal S8x16x197 .f32} {b : Fin 8} {n : Fin 197} {D : Fin 16 → Fin 197 → EReal}
    (hd : ∀ t, d (ix3 b t n) = D t n) (t : Fin 16) : weig (expo (masked d)) (ix3 b t n) = att16 D t n := by
  have he := expo_read hd
  revert he
  generalize expo (masked d) = e
  intro he
  have hs : (∑ u : Fin 16, if u.val < 10 then Ideal.exp (D u n - top fun u => D (up u) n) else 0) = ∑ u, expd (fun u => D (up u) n) u := by
    rw [sum_ten _ fun u h => if_neg h]
    exact Finset.sum_congr rfl fun u _ => if_pos (show (up u).val < 10 from u.isLt)
  pointwise [weig, bits_delta]
  simp only [he]
  rw [hs]
  rfl

/-- The rows divided by their sums. -/
theorem norm_read {a : FVec Ideal S8x16x197 .f32} {b : Fin 8} {t : Fin 16} {A : Fin 197 → EReal}
    (ha : ∀ n, a (ix3 b t n) = A n) (n : Fin 197) : norm a (ix3 b t n) = share A n := by
  pointwise [norm]
  simp only [ha]
  rfl

/-- What the slots read. -/
theorem reads_read {a : FVec Ideal S8x16x197 .bf16} {K : Fin 8 → FVec Ideal S197x128 .bf16} {b : Fin 8} {t : Fin 16} {j : Fin 128}
    {A R : Fin 197 → EReal} (ha : ∀ n, a (ix3 b t n) = A n) (hK : ∀ n, K b (ix2 n j) = R n) :
    reads a K b (ix2 t j) = ∑ n, A n * R n := by
  pointwise [reads]
  simp only [ha, hK]

/-- The recurrent unit's product with what the slots read. -/
theorem gx_read {u : FVec Ideal S128x128 .f32} {w : FVec Ideal S192x128 .f32} {b : FVec Ideal S1x192 .f32} {t : Fin 128} {j : Fin 192}
    {U W : Fin 128 → EReal} {B : EReal} (hu : ∀ d, u (ix2 t d) = U d) (hw : ∀ d, w (ix2 j d) = W d)
    (hb : b (ix2 0 j) = B) : gx u w b (ix2 t j) = (∑ d, U d * W d) + B := by
  pointwise [gx]
  simp only [hu, hw, hb]

/-- The recurrent unit's product with its state. -/
theorem gh_read {s : FVec Ideal S128x64 .f32} {w : FVec Ideal S192x64 .f32} {b : FVec Ideal S1x192 .f32} {t : Fin 128} {j : Fin 192}
    {U W : Fin 64 → EReal} {B : EReal} (hu : ∀ d, s (ix2 t d) = U d) (hw : ∀ d, w (ix2 j d) = W d)
    (hb : b (ix2 0 j) = B) : gh s w b (ix2 t j) = (∑ d, U d * W d) + B := by
  pointwise [gh]
  simp only [hu, hw, hb]

/-- The recurrent unit's result, of a real state. -/
theorem unit_real {x h : FVec Ideal S128x192 .f32} {s : FVec Ideal S128x64 .f32} {t : Fin 128} {X H : Fin 192 → EReal} {S : Fin 64 → ℝ}
    (hx : ∀ j, x (ix2 t j) = X j) (hh : ∀ j, h (ix2 t j) = H j)
    (hs : ∀ j, s (ix2 t j) = ((S j : ℝ) : EReal)) (d : Fin 64) : unit x h s (ix2 t d) = ((gru X H S d : ℝ) : EReal) := by
  pointwise [unit]
  simp only [hx, hh, hs, logistic_eq, tanh_eq]
  simp only [← EReal.coe_mul, ← EReal.coe_one, ← EReal.coe_sub, ← EReal.coe_add]
  rfl

/-- The last layers, of reals. -/
theorem last_real {y : FVec Ideal S128x64 .f32} {w1 : FVec Ideal S64x128 .f32} {c1 b1 : FVec Ideal S1x128 .f32} {w2 : FVec Ideal S128x64 .f32}
    {b2 : FVec Ideal S1x64 .f32} {t : Fin 128} {P : Par} {Y : Fin 64 → ℝ} (hy : ∀ d, y (ix2 t d) = ((Y d : ℝ) : EReal))
    (hw1 : ∀ k j, w1 (ix2 k j) = ((P.gm k * P.W1 k j : ℝ) : EReal)) (hc1 : ∀ j, c1 (ix2 0 j) = ((∑ k, P.gm k * P.W1 k j : ℝ) : EReal))
    (hb1 : ∀ j, b1 (ix2 0 j) = (((∑ k, P.bm k * P.W1 k j) + P.b1 j : ℝ) : EReal))
    (hw2 : ∀ k j, w2 (ix2 k j) = ((P.W2 k j : ℝ) : EReal)) (hb2 : ∀ j, b2 (ix2 0 j) = ((P.b2 j : ℝ) : EReal)) (d : Fin 64) :
    last y w1 c1 b1 w2 b2 (ix2 t d) = ((mlp P Y d : ℝ) : EReal) := by
  have hl : ∀ j, lnDot y w1 c1 b1 (ix2 t j) = (((∑ k, ln Y P.gm P.bm k * P.W1 k j) + P.b1 j : ℝ) : EReal) := fun j => by
    refine (lnDot_real (β := fun k => (P.bm k : EReal)) (B := P.b1 j) hy (fun k => hw1 k j) (hc1 j) ?_).trans ?_
    · simp only [hb1, EReal.coe_add, coe_sum, EReal.coe_mul]
    · simp only [lnE_coe, EReal.coe_add, coe_sum, EReal.coe_mul]
  revert hl
  generalize hL : lnDot y w1 c1 b1 = L
  intro hl
  pointwise [last]
  rw [hL]
  simp only [hl, hy, hw2, hb2, ← EReal.coe_zero, max_real, ← EReal.coe_mul, ← coe_sum, ← EReal.coe_add]
  rw [add_assoc]
  rfl

/-- The decoder's projection at an index. -/
theorem proj2_apply (s : FVec Ideal S128x64 .f32) (w : FVec Ideal S64x768 .f32) (b : FVec Ideal S1x768 .f32) (t : Fin 128) (j : Fin 768) :
    proj2 s w b (ix2 t j) = max ((∑ k, s (ix2 t k) * w (ix2 k j)) + b (ix2 0 j)) 0 := by
  pointwise [proj2]

/-! ### One round -/

/-- The key and value weights side by side. -/
def wkvR (P : Par) (k : Fin 768) (j : Fin 128) : ℝ := if h : j.val < 64 then P.Wk k ⟨j.val, h⟩ else P.Wv k ⟨j.val - 64, by omega⟩

/-- The query weights scaled and padded. -/
def wqR (P : Par) (k : Fin 64) (j : Fin 128) : ℝ := if h : j.val < 64 then P.Wq k ⟨j.val, h⟩ * (1 / 8) else 0

/-- The recurrent unit's input weights, padded. -/
def wihR (P : Par) (i : Fin 192) (j : Fin 128) : EReal := if h : j.val < 64 then 0 else P.Wih i ⟨j.val - 64, by omega⟩

/-- A feature row's key and value side by side. -/
def kvR (P : Par) (X : Fin 768 → ℝ) (j : Fin 128) : EReal := ∑ k, lnE X P.gi P.bi k * (wkvR P k j : EReal)

/-- The first half is the key. -/
theorem kvR_lo (P : Par) (X : Fin 768 → ℝ) (d : Fin 64) : kvR P X (lo d) = key P X d :=
  Finset.sum_congr rfl fun k _ => congrArg (fun w : ℝ => lnE X P.gi P.bi k * (w : EReal)) (dif_pos (show (lo d).val < 64 from d.isLt))

/-- The second half is the value. -/
theorem kvR_hi (P : Par) (X : Fin 768 → ℝ) (d : Fin 64) : kvR P X (hi d) = value P X d := by
  refine Finset.sum_congr rfl fun k _ => congrArg (fun w : ℝ => lnE X P.gi P.bi k * (w : EReal)) ?_
  have h : ¬ (hi d).val < 64 := by show ¬ 64 + d.val < 64; omega
  unfold wkvR
  rw [dif_neg h]
  congr 1
  exact Fin.ext (show 64 + d.val - 64 = d.val by omega)

/-- The sixteen rows' fits. -/
def fit16 (P : Par) (X : Fin 197 → Fin 768 → ℝ) (S : Fin 16 → Fin 64 → ℝ) (s : Fin 16) (n : Fin 197) : EReal :=
  (∑ d, query P (S s) d * key P (X n) d) * ((1 / 8 : ℝ) : EReal)

/-- One round on sixteen rows. -/
def step16 (P : Par) (X : Fin 197 → Fin 768 → ℝ) (S : Fin 16 → Fin 64 → ℝ) (s : Fin 16) : Fin 64 → ℝ :=
  row P (S s) fun d => ∑ n, share (att16 (fit16 P X S) s) n * value P (X n) d

/-- One round on sixteen rows does to the first ten what a round does. -/
theorem step16_up (P : Par) (X : Fin 197 → Fin 768 → ℝ) (S : Fin 16 → Fin 64 → ℝ) (s : Fin 10) :
    step16 P X S (up s) = step P X (fun t => S (up t)) s := by
  have h : att16 (fit16 P X S) (up s) = att (fit P X fun t => S (up t)) s := by
    funext n
    unfold att16 att
    rw [if_pos (show (up s).val < 10 from s.isLt)]
    rfl
  unfold step16 step
  rw [h]
  rfl

/-- The padded product of query and key is the fit. -/
theorem fit16_eq (P : Par) (X : Fin 768 → ℝ) (S : Fin 64 → ℝ) :
    ∑ j, (∑ k, lnE S P.gs P.bs k * (wqR P k j : EReal)) * kvR P X j = (∑ d, query P S d * key P X d) * ((1 / 8 : ℝ) : EReal) := by
  have h8 : (0 : ℝ) ≤ 1 / 8 := by norm_num
  rw [sum_halves, Finset.sum_eq_zero (s := Finset.univ) (f := fun d => (∑ k, lnE S P.gs P.bs k * (wqR P k (hi d) : EReal)) * kvR P X (hi d)), add_zero,
    sum_mul_real _ _ h8]
  · refine Finset.sum_congr rfl fun d _ => ?_
    rw [kvR_lo]
    have : ∀ k, wqR P k (lo d) = P.Wq k d * (1 / 8) := fun k => dif_pos (show (lo d).val < 64 from d.isLt)
    simp only [this, EReal.coe_mul, ← mul_assoc]
    rw [← sum_mul_real _ _ h8, mul_right_comm]
    rfl
  · intro d _
    have h : ¬ (hi d).val < 64 := by show ¬ 64 + d.val < 64; omega
    have : ∀ k, wqR P k (hi d) = 0 := fun k => dif_neg h
    simp only [this, EReal.coe_zero, mul_zero, Finset.sum_const_zero, zero_mul]

/-- The padded product with the input weights. -/
theorem gx_eq (P : Par) (U : Fin 128 → EReal) (j : Fin 192) : (∑ d, U d * wihR P j d) + P.bih j = gxR P (fun d => U (hi d)) j := by
  rw [sum_halves, Finset.sum_eq_zero (s := Finset.univ) (f := fun d => U (lo d) * wihR P j (lo d)), zero_add]
  · unfold gxR
    congr 1
  · intro d _
    have : wihR P j (lo d) = 0 := dif_pos (show (lo d).val < 64 from d.isLt)
    rw [this, mul_zero]

/-- What the kernel's weight windows hold: the parameters, as the host prepares them. -/
structure Wts (P : Par) (wq : FVec Ideal S64x128 .f32) (cq bq : FVec Ideal S1x128 .f32)
    (wih : FVec Ideal S192x128 .f32) (whh : FVec Ideal S192x64 .f32) (bih bhh : FVec Ideal S1x192 .f32)
    (w1 : FVec Ideal S64x128 .f32) (c1 b1 : FVec Ideal S1x128 .f32) (w2 : FVec Ideal S128x64 .f32) (b2 : FVec Ideal S1x64 .f32) : Prop where
  /-- query weights -/
  hwq : ∀ k j, wq (ix2 k j) = ((P.gs k * wqR P k j : ℝ) : EReal)
  /-- their columns' sums -/
  hcq : ∀ j, cq (ix2 0 j) = ((∑ k, P.gs k * wqR P k j : ℝ) : EReal)
  /-- the shift's product with them -/
  hbq : ∀ j, bq (ix2 0 j) = ∑ k, P.bs k * (wqR P k j : EReal)
  /-- input weights -/
  hwih : ∀ i j, wih (ix2 i j) = wihR P i j
  /-- state weights -/
  hwhh : ∀ i j, whh (ix2 i j) = P.Whh i j
  /-- input shift -/
  hbih : ∀ i, bih (ix2 0 i) = P.bih i
  /-- state shift -/
  hbhh : ∀ i, bhh (ix2 0 i) = P.bhh i
  /-- first layer -/
  hw1 : ∀ k j, w1 (ix2 k j) = ((P.gm k * P.W1 k j : ℝ) : EReal)
  /-- its columns' sums -/
  hc1 : ∀ j, c1 (ix2 0 j) = ((∑ k, P.gm k * P.W1 k j : ℝ) : EReal)
  /-- its shift -/
  hb1 : ∀ j, b1 (ix2 0 j) = (((∑ k, P.bm k * P.W1 k j) + P.b1 j : ℝ) : EReal)
  /-- second layer -/
  hw2 : ∀ k j, w2 (ix2 k j) = ((P.W2 k j : ℝ) : EReal)
  /-- its shift -/
  hb2 : ∀ j, b2 (ix2 0 j) = ((P.b2 j : ℝ) : EReal)

/-- One round of the kernel on reals is the model's round on sixteen rows. -/
theorem round_real {P : Par} {wq : FVec Ideal S64x128 .f32} {cq bq : FVec Ideal S1x128 .f32}
    {wih : FVec Ideal S192x128 .f32} {whh : FVec Ideal S192x64 .f32} {bih bhh : FVec Ideal S1x192 .f32}
    {w1 : FVec Ideal S64x128 .f32} {c1 b1 : FVec Ideal S1x128 .f32} {w2 : FVec Ideal S128x64 .f32} {b2 : FVec Ideal S1x64 .f32}
    (W : Wts P wq cq bq wih whh bih bhh w1 c1 b1 w2 b2) {K : Fin 8 → FVec Ideal S197x128 .bf16} {b : Fin 8} {X : Fin 197 → Fin 768 → ℝ}
    (hK : ∀ n j, K b (ix2 n j) = kvR P (X n) j) {s : FVec Ideal S128x64 .f32} {S : Fin 16 → Fin 64 → ℝ}
    (hs : ∀ t d, s (ix2 (rowIx b t) d) = ((S t d : ℝ) : EReal)) (t : Fin 16) (d : Fin 64) :
    round K wq cq bq wih whh bih bhh w1 c1 b1 w2 b2 s (ix2 (rowIx b t) d) = ((step16 P X S t d : ℝ) : EReal) := by
  have hq : ∀ t j, truncf .bf16 (lnDot s wq cq bq) bitsLt_bf16_f32 (ix2 (rowIx b t) j) = ∑ k, lnE (S t) P.gs P.bs k * (wqR P k j : EReal) := fun t j =>
    (lnDot_real (B := 0) (hs t) (fun k => W.hwq k j) (W.hcq j) (by rw [W.hbq, add_zero])).trans (by rw [add_zero])
  have hd : ∀ t n, stack (score (truncf .bf16 (lnDot s wq cq bq) bitsLt_bf16_f32) K) (ix3 b t n) = fit16 P X S t n := fun t n => by
    rw [stack_apply, score_read (hq t) (hK n), fit16_eq]; rfl
  revert hd
  unfold round
  generalize stack (score (truncf .bf16 (lnDot s wq cq bq) bitsLt_bf16_f32) K) = D
  intro hd
  have ha : ∀ t n, norm (weig (expo (masked D))) (ix3 b t n) = share (att16 (fit16 P X S) t) n := fun t n =>
    norm_read (fun n => weig_read (fun u => hd u n) t) n
  have hu : ∀ j, rows (reads (norm (weig (expo (masked D)))) K) (ix2 (rowIx b t) j)
      = ∑ n, share (att16 (fit16 P X S) t) n * kvR P (X n) j := fun j => by
    rw [rows_apply, reads_read (ha t) (fun n => hK n j)]
  have hgx : ∀ j, gx (rows (reads (norm (weig (expo (masked D)))) K)) wih bih (ix2 (rowIx b t) j)
      = gxR P (fun d => ∑ n, share (att16 (fit16 P X S) t) n * value P (X n) d) j := fun j => by
    rw [gx_read hu (W.hwih j) (W.hbih j), gx_eq]
    simp only [kvR_hi]
  exact last_real (unit_real hgx (fun j => gh_read (hs t) (W.hwhh j) (W.hbhh j)) (hs t)) W.hw1 W.hc1 W.hb1 W.hw2 W.hb2 d

end Cert.KernelIdeal.KVal

end
-- ==== Proof.KRun.lean ====
/- The kernel's run read as the stages: each value the run names is a stage of the values before it. -/
module

public import proofs.«01_k».proof.Proof.KStages
public import proofs.«01_k».proof.Proof.KernelIdealFrame.Frame

@[expose] public section

noncomputable section

namespace Cert.KernelIdeal.KVal

open Cert.KernelIdeal Cert.KernelIdeal.Gen Idealize.ShloMosaic Cert.Model

/-- Batch element 0's keys and values, as they are stored. -/
theorem v58_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (x0 : Vec Ideal S8x197x768 .f32) (x1 : Vec Ideal S768x128 .bf16) (x2 : Vec Ideal S1x128 .f32) (x3 : Vec Ideal S1x128 .f32) :
    (kernelRun0_A.sl.v58 (F := Ideal) c arg1 harg1 arg2 harg2 arg3 harg3 arg4 harg4 x0 x1 x2 x3) = shapeCast S1x197x128 (kvBlk (kernelRun0_A.sl.v29 (F := Ideal) c arg1 harg1 x0) (kernelRun0_A.sl.v23 (F := Ideal) c arg2 harg2 x1) (kernelRun0_A.sl.v25 (F := Ideal) c arg3 harg3 x2) (kernelRun0_A.sl.v27 (F := Ideal) c arg4 harg4 x3)) shapeCasts_S197x128_S1x197x128 := rfl

/-- Batch element 1's keys and values, as they are stored. -/
theorem v89_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (x0 : Vec Ideal S8x197x768 .f32) (x1 : Vec Ideal S768x128 .bf16) (x2 : Vec Ideal S1x128 .f32) (x3 : Vec Ideal S1x128 .f32) :
    (kernelRun0_A.sl.v89 (F := Ideal) c arg1 harg1 arg2 harg2 arg3 harg3 arg4 harg4 x0 x1 x2 x3) = shapeCast S1x197x128 (kvBlk (kernelRun0_A.sl.v60 (F := Ideal) c arg1 harg1 x0) (kernelRun0_A.sl.v23 (F := Ideal) c arg2 harg2 x1) (kernelRun0_A.sl.v25 (F := Ideal) c arg3 harg3 x2) (kernelRun0_A.sl.v27 (F := Ideal) c arg4 harg4 x3)) shapeCasts_S197x128_S1x197x128 := rfl

/-- Batch element 2's keys and values, as they are stored. -/
theorem v120_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (x0 : Vec Ideal S8x197x768 .f32) (x1 : Vec Ideal S768x128 .bf16) (x2 : Vec Ideal S1x128 .f32) (x3 : Vec Ideal S1x128 .f32) :
    (kernelRun0_A.sl.v120 (F := Ideal) c arg1 harg1 arg2 harg2 arg3 harg3 arg4 harg4 x0 x1 x2 x3) = shapeCast S1x197x128 (kvBlk (kernelRun0_A.sl.v91 (F := Ideal) c arg1 harg1 x0) (kernelRun0_A.sl.v23 (F := Ideal) c arg2 harg2 x1) (kernelRun0_A.sl.v25 (F := Ideal) c arg3 harg3 x2) (kernelRun0_A.sl.v27 (F := Ideal) c arg4 harg4 x3)) shapeCasts_S197x128_S1x197x128 := rfl

/-- Batch element 3's keys and values, as they are stored. -/
theorem v151_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (x0 : Vec Ideal S8x197x768 .f32) (x1 : Vec Ideal S768x128 .bf16) (x2 : Vec Ideal S1x128 .f32) (x3 : Vec Ideal S1x128 .f32) :
    (kernelRun0_A.sl.v151 (F := Ideal) c arg1 harg1 arg2 harg2 arg3 harg3 arg4 harg4 x0 x1 x2 x3) = shapeCast S1x197x128 (kvBlk (kernelRun0_A.sl.v122 (F := Ideal) c arg1 harg1 x0) (kernelRun0_A.sl.v23 (F := Ideal) c arg2 harg2 x1) (kernelRun0_A.sl.v25 (F := Ideal) c arg3 harg3 x2) (kernelRun0_A.sl.v27 (F := Ideal) c arg4 harg4 x3)) shapeCasts_S197x128_S1x197x128 := rfl

/-- Batch element 4's keys and values, as they are stored. -/
theorem v182_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (x0 : Vec Ideal S8x197x768 .f32) (x1 : Vec Ideal S768x128 .bf16) (x2 : Vec Ideal S1x128 .f32) (x3 : Vec Ideal S1x128 .f32) :
    (kernelRun0_A.sl.v182 (F := Ideal) c arg1 harg1 arg2 harg2 arg3 harg3 arg4 harg4 x0 x1 x2 x3) = shapeCast S1x197x128 (kvBlk (kernelRun0_A.sl.v153 (F := Ideal) c arg1 harg1 x0) (kernelRun0_A.sl.v23 (F := Ideal) c arg2 harg2 x1) (kernelRun0_A.sl.v25 (F := Ideal) c arg3 harg3 x2) (kernelRun0_A.sl.v27 (F := Ideal) c arg4 harg4 x3)) shapeCasts_S197x128_S1x197x128 := rfl

/-- Batch element 5's keys and values, as they are stored. -/
theorem v213_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (x0 : Vec Ideal S8x197x768 .f32) (x1 : Vec Ideal S768x128 .bf16) (x2 : Vec Ideal S1x128 .f32) (x3 : Vec Ideal S1x128 .f32) :
    (kernelRun0_A.sl.v213 (F := Ideal) c arg1 harg1 arg2 harg2 arg3 harg3 arg4 harg4 x0 x1 x2 x3) = shapeCast S1x197x128 (kvBlk (kernelRun0_A.sl.v184 (F := Ideal) c arg1 harg1 x0) (kernelRun0_A.sl.v23 (F := Ideal) c arg2 harg2 x1) (kernelRun0_A.sl.v25 (F := Ideal) c arg3 harg3 x2) (kernelRun0_A.sl.v27 (F := Ideal) c arg4 harg4 x3)) shapeCasts_S197x128_S1x197x128 := rfl

/-- Batch element 6's keys and values, as they are stored. -/
theorem v244_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (x0 : Vec Ideal S8x197x768 .f32) (x1 : Vec Ideal S768x128 .bf16) (x2 : Vec Ideal S1x128 .f32) (x3 : Vec Ideal S1x128 .f32) :
    (kernelRun0_A.sl.v244 (F := Ideal) c arg1 harg1 arg2 harg2 arg3 harg3 arg4 harg4 x0 x1 x2 x3) = shapeCast S1x197x128 (kvBlk (kernelRun0_A.sl.v215 (F := Ideal) c arg1 harg1 x0) (kernelRun0_A.sl.v23 (F := Ideal) c arg2 harg2 x1) (kernelRun0_A.sl.v25 (F := Ideal) c arg3 harg3 x2) (kernelRun0_A.sl.v27 (F := Ideal) c arg4 harg4 x3)) shapeCasts_S197x128_S1x197x128 := rfl

/-- Batch element 7's keys and values, as they are stored. -/
theorem v275_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (x0 : Vec Ideal S8x197x768 .f32) (x1 : Vec Ideal S768x128 .bf16) (x2 : Vec Ideal S1x128 .f32) (x3 : Vec Ideal S1x128 .f32) :
    (kernelRun0_A.sl.v275 (F := Ideal) c arg1 harg1 arg2 harg2 arg3 harg3 arg4 harg4 x0 x1 x2 x3) = shapeCast S1x197x128 (kvBlk (kernelRun0_A.sl.v246 (F := Ideal) c arg1 harg1 x0) (kernelRun0_A.sl.v23 (F := Ideal) c arg2 harg2 x1) (kernelRun0_A.sl.v25 (F := Ideal) c arg3 harg3 x2) (kernelRun0_A.sl.v27 (F := Ideal) c arg4 harg4 x3)) shapeCasts_S197x128_S1x197x128 := rfl

/-- One matrix of eight lies in the scratch buffer. -/
theorem fits (b : Fin 8) : ∀ a, (![b.val, 0, 0] : Fin 3 → Nat) a + S1x197x128.size a ≤ S8x197x128.size a := by
  revert b; decide

/-- The keys and values as the rounds read them back. -/
def kvK (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg22 : Memref sig .tc .vmem S8x197x128 .bf16) (x0 : Vec Ideal S8x197x768 .f32) (x1 : Vec Ideal S768x128 .bf16) (x2 : Vec Ideal S1x128 .f32) (x3 : Vec Ideal S1x128 .f32) :
    Fin 8 → FVec Ideal S197x128 .bf16 := fun b =>
  shapeCast S197x128 (arg22.view.readCov (kernelRun0_A.sl.HS0_8 (F := Ideal) c arg1 harg1 arg2 harg2 arg3 harg3 arg4 harg4 x0 x1 x2 x3) (Rect.unit (s := S8x197x128) ![b.val, 0, 0] S1x197x128.size (fits b)).toLoadRect) shapeCasts_S1x197x128_S197x128

/-- The first round's queries. -/
theorem v308_eq (c : Dev nD) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (x4 : Vec Ideal S128x64 .f32) (x5 : Vec Ideal S64x128 .f32) (x6 : Vec Ideal S1x128 .f32) (x7 : Vec Ideal S1x128 .f32) :
    (kernelRun0_A.sl.v308 (F := Ideal) c arg5 harg5 arg6 harg6 arg7 harg7 arg8 harg8 x4 x5 x6 x7) = truncf .bf16 (lnDot (kernelRun0_A.sl.v283 (F := Ideal) c arg5 harg5 x4) (kernelRun0_A.sl.v1 (F := Ideal) c arg6 harg6 x5) (kernelRun0_A.sl.v3 (F := Ideal) c arg7 harg7 x6) (kernelRun0_A.sl.v5 (F := Ideal) c arg8 harg8 x7)) bitsLt_bf16_f32 := rfl

/-- The first round's attention. -/
theorem v369_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg22 : Memref sig .tc .vmem S8x197x128 .bf16) (x0 : Vec Ideal S8x197x768 .f32) (x1 : Vec Ideal S768x128 .bf16) (x2 : Vec Ideal S1x128 .f32) (x3 : Vec Ideal S1x128 .f32) (x4 : Vec Ideal S128x64 .f32) (x5 : Vec Ideal S64x128 .f32) (x6 : Vec Ideal S1x128 .f32) (x7 : Vec Ideal S1x128 .f32) :
    (kernelRun0_A.sl.v369 (F := Ideal) c arg1 harg1 arg2 harg2 arg3 harg3 arg4 harg4 arg5 harg5 arg6 harg6 arg7 harg7 arg8 harg8 arg22 x0 x1 x2 x3 x4 x5 x6 x7) = norm (weig (expo (masked (stack (score (kernelRun0_A.sl.v308 (F := Ideal) c arg5 harg5 arg6 harg6 arg7 harg7 arg8 harg8 x4 x5 x6 x7) (kvK c arg1 harg1 arg2 harg2 arg3 harg3 arg4 harg4 arg22 x0 x1 x2 x3)))))) := rfl

/-- What the first round's slots read. -/
theorem v410_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg22 : Memref sig .tc .vmem S8x197x128 .bf16) (x0 : Vec Ideal S8x197x768 .f32) (x1 : Vec Ideal S768x128 .bf16) (x2 : Vec Ideal S1x128 .f32) (x3 : Vec Ideal S1x128 .f32) (x4 : Vec Ideal S128x64 .f32) (x5 : Vec Ideal S64x128 .f32) (x6 : Vec Ideal S1x128 .f32) (x7 : Vec Ideal S1x128 .f32) :
    (kernelRun0_A.sl.v410 (F := Ideal) c arg1 harg1 arg2 harg2 arg3 harg3 arg4 harg4 arg5 harg5 arg6 harg6 arg7 harg7 arg8 harg8 arg22 x0 x1 x2 x3 x4 x5 x6 x7) = rows (reads (kernelRun0_A.sl.v369 (F := Ideal) c arg1 harg1 arg2 harg2 arg3 harg3 arg4 harg4 arg5 harg5 arg6 harg6 arg7 harg7 arg8 harg8 arg22 x0 x1 x2 x3 x4 x5 x6 x7) (kvK c arg1 harg1 arg2 harg2 arg3 harg3 arg4 harg4 arg22 x0 x1 x2 x3)) := rfl

/-- The first round's recurrent unit. -/
theorem v434_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg22 : Memref sig .tc .vmem S8x197x128 .bf16) (x0 : Vec Ideal S8x197x768 .f32) (x1 : Vec Ideal S768x128 .bf16) (x2 : Vec Ideal S1x128 .f32) (x3 : Vec Ideal S1x128 .f32) (x4 : Vec Ideal S128x64 .f32) (x5 : Vec Ideal S64x128 .f32) (x6 : Vec Ideal S1x128 .f32) (x7 : Vec Ideal S1x128 .f32) (x8 : Vec Ideal S192x128 .f32) (x9 : Vec Ideal S192x64 .f32) (x10 : Vec Ideal S1x192 .f32) (x11 : Vec Ideal S1x192 .f32) :
    (kernelRun0_A.sl.v434 (F := Ideal) c arg1 harg1 arg2 harg2 arg3 harg3 arg4 harg4 arg5 harg5 arg6 harg6 arg7 harg7 arg8 harg8 arg9 harg9 arg10 harg10 arg11 harg11 arg12 harg12 arg22 x0 x1 x2 x3 x4 x5 x6 x7 x8 x9 x10 x11) = unit (gx (kernelRun0_A.sl.v410 (F := Ideal) c arg1 harg1 arg2 harg2 arg3 harg3 arg4 harg4 arg5 harg5 arg6 harg6 arg7 harg7 arg8 harg8 arg22 x0 x1 x2 x3 x4 x5 x6 x7) (kernelRun0_A.sl.v7 (F := Ideal) c arg9 harg9 x8) (kernelRun0_A.sl.v10 (F := Ideal) c arg11 harg11 x10)) (gh (kernelRun0_A.sl.v283 (F := Ideal) c arg5 harg5 x4) (kernelRun0_A.sl.r (F := Ideal) c arg10 harg10 x9) (kernelRun0_A.sl.v12 (F := Ideal) c arg12 harg12 x11)) (kernelRun0_A.sl.v283 (F := Ideal) c arg5 harg5 x4) := rfl

/-- The first round's last layers. -/
theorem lv464_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x64 .f32) (harg16 : arg16.IsWhole) (arg17 : Memref sig .tc .vmem S1x64 .f32) (harg17 : arg17.IsWhole) (arg22 : Memref sig .tc .vmem S8x197x128 .bf16) (x0 : Vec Ideal S8x197x768 .f32) (x1 : Vec Ideal S768x128 .bf16) (x2 : Vec Ideal S1x128 .f32) (x3 : Vec Ideal S1x128 .f32) (x4 : Vec Ideal S128x64 .f32) (x5 : Vec Ideal S64x128 .f32) (x6 : Vec Ideal S1x128 .f32) (x7 : Vec Ideal S1x128 .f32) (x8 : Vec Ideal S192x128 .f32) (x9 : Vec Ideal S192x64 .f32) (x10 : Vec Ideal S1x192 .f32) (x11 : Vec Ideal S1x192 .f32) (x12 : Vec Ideal S64x128 .f32) (x13 : Vec Ideal S1x128 .f32) (x14 : Vec Ideal S1x128 .f32) (x15 : Vec Ideal S128x64 .f32) (x16 : Vec Ideal S1x64 .f32) :
    (kernelRun0_A.sl.v464 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) = last (kernelRun0_A.sl.v434 (F := Ideal) c arg1 harg1 arg2 harg2 arg3 harg3 arg4 harg4 arg5 harg5 arg6 harg6 arg7 harg7 arg8 harg8 arg9 harg9 arg10 harg10 arg11 harg11 arg12 harg12 arg22 x0 x1 x2 x3 x4 x5 x6 x7 x8 x9 x10 x11) (kernelRun0_A.sl.v14 (F := Ideal) c arg13 harg13 x12) (kernelRun0_A.sl.v16 (F := Ideal) c arg14 harg14 x13) (kernelRun0_A.sl.v18 (F := Ideal) c arg15 harg15 x14) (kernelRun0_A.sl.r_1 (F := Ideal) c arg16 harg16 x15) (kernelRun0_A.sl.v21 (F := Ideal) c arg17 harg17 x16) := rfl

/-- The first round. -/
theorem v464_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x64 .f32) (harg16 : arg16.IsWhole) (arg17 : Memref sig .tc .vmem S1x64 .f32) (harg17 : arg17.IsWhole) (arg22 : Memref sig .tc .vmem S8x197x128 .bf16) (x0 : Vec Ideal S8x197x768 .f32) (x1 : Vec Ideal S768x128 .bf16) (x2 : Vec Ideal S1x128 .f32) (x3 : Vec Ideal S1x128 .f32) (x4 : Vec Ideal S128x64 .f32) (x5 : Vec Ideal S64x128 .f32) (x6 : Vec Ideal S1x128 .f32) (x7 : Vec Ideal S1x128 .f32) (x8 : Vec Ideal S192x128 .f32) (x9 : Vec Ideal S192x64 .f32) (x10 : Vec Ideal S1x192 .f32) (x11 : Vec Ideal S1x192 .f32) (x12 : Vec Ideal S64x128 .f32) (x13 : Vec Ideal S1x128 .f32) (x14 : Vec Ideal S1x128 .f32) (x15 : Vec Ideal S128x64 .f32) (x16 : Vec Ideal S1x64 .f32) :
    (kernelRun0_A.sl.v464 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) = round (kvK c arg1 harg1 arg2 harg2 arg3 harg3 arg4 harg4 arg22 x0 x1 x2 x3) (kernelRun0_A.sl.v1 (F := Ideal) c arg6 harg6 x5) (kernelRun0_A.sl.v3 (F := Ideal) c arg7 harg7 x6) (kernelRun0_A.sl.v5 (F := Ideal) c arg8 harg8 x7) (kernelRun0_A.sl.v7 (F := Ideal) c arg9 harg9 x8) (kernelRun0_A.sl.r (F := Ideal) c arg10 harg10 x9) (kernelRun0_A.sl.v10 (F := Ideal) c arg11 harg11 x10) (kernelRun0_A.sl.v12 (F := Ideal) c arg12 harg12 x11) (kernelRun0_A.sl.v14 (F := Ideal) c arg13 harg13 x12) (kernelRun0_A.sl.v16 (F := Ideal) c arg14 harg14 x13) (kernelRun0_A.sl.v18 (F := Ideal) c arg15 harg15 x14) (kernelRun0_A.sl.r_1 (F := Ideal) c arg16 harg16 x15) (kernelRun0_A.sl.v21 (F := Ideal) c arg17 harg17 x16) (kernelRun0_A.sl.v283 (F := Ideal) c arg5 harg5 x4) := by
  rw [lv464_eq, v434_eq, v410_eq, v369_eq, v308_eq]; rfl

/-- The second round's queries. -/
theorem v489_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x64 .f32) (harg16 : arg16.IsWhole) (arg17 : Memref sig .tc .vmem S1x64 .f32) (harg17 : arg17.IsWhole) (arg22 : Memref sig .tc .vmem S8x197x128 .bf16) (x0 : Vec Ideal S8x197x768 .f32) (x1 : Vec Ideal S768x128 .bf16) (x2 : Vec Ideal S1x128 .f32) (x3 : Vec Ideal S1x128 .f32) (x4 : Vec Ideal S128x64 .f32) (x5 : Vec Ideal S64x128 .f32) (x6 : Vec Ideal S1x128 .f32) (x7 : Vec Ideal S1x128 .f32) (x8 : Vec Ideal S192x128 .f32) (x9 : Vec Ideal S192x64 .f32) (x10 : Vec Ideal S1x192 .f32) (x11 : Vec Ideal S1x192 .f32) (x12 : Vec Ideal S64x128 .f32) (x13 : Vec Ideal S1x128 .f32) (x14 : Vec Ideal S1x128 .f32) (x15 : Vec Ideal S128x64 .f32) (x16 : Vec Ideal S1x64 .f32) :
    (kernelRun0_A.sl.v489 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) = truncf .bf16 (lnDot (kernelRun0_A.sl.v464 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) (kernelRun0_A.sl.v1 (F := Ideal) c arg6 harg6 x5) (kernelRun0_A.sl.v3 (F := Ideal) c arg7 harg7 x6) (kernelRun0_A.sl.v5 (F := Ideal) c arg8 harg8 x7)) bitsLt_bf16_f32 := rfl

/-- The second round's attention. -/
theorem r_4_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x64 .f32) (harg16 : arg16.IsWhole) (arg17 : Memref sig .tc .vmem S1x64 .f32) (harg17 : arg17.IsWhole) (arg22 : Memref sig .tc .vmem S8x197x128 .bf16) (x0 : Vec Ideal S8x197x768 .f32) (x1 : Vec Ideal S768x128 .bf16) (x2 : Vec Ideal S1x128 .f32) (x3 : Vec Ideal S1x128 .f32) (x4 : Vec Ideal S128x64 .f32) (x5 : Vec Ideal S64x128 .f32) (x6 : Vec Ideal S1x128 .f32) (x7 : Vec Ideal S1x128 .f32) (x8 : Vec Ideal S192x128 .f32) (x9 : Vec Ideal S192x64 .f32) (x10 : Vec Ideal S1x192 .f32) (x11 : Vec Ideal S1x192 .f32) (x12 : Vec Ideal S64x128 .f32) (x13 : Vec Ideal S1x128 .f32) (x14 : Vec Ideal S1x128 .f32) (x15 : Vec Ideal S128x64 .f32) (x16 : Vec Ideal S1x64 .f32) :
    (kernelRun0_A.sl.r_4 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) = norm (weig (expo (masked (stack (score (kernelRun0_A.sl.v489 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) (kvK c arg1 harg1 arg2 harg2 arg3 harg3 arg4 harg4 arg22 x0 x1 x2 x3)))))) := rfl

/-- What the second round's slots read. -/
theorem v591_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x64 .f32) (harg16 : arg16.IsWhole) (arg17 : Memref sig .tc .vmem S1x64 .f32) (harg17 : arg17.IsWhole) (arg22 : Memref sig .tc .vmem S8x197x128 .bf16) (x0 : Vec Ideal S8x197x768 .f32) (x1 : Vec Ideal S768x128 .bf16) (x2 : Vec Ideal S1x128 .f32) (x3 : Vec Ideal S1x128 .f32) (x4 : Vec Ideal S128x64 .f32) (x5 : Vec Ideal S64x128 .f32) (x6 : Vec Ideal S1x128 .f32) (x7 : Vec Ideal S1x128 .f32) (x8 : Vec Ideal S192x128 .f32) (x9 : Vec Ideal S192x64 .f32) (x10 : Vec Ideal S1x192 .f32) (x11 : Vec Ideal S1x192 .f32) (x12 : Vec Ideal S64x128 .f32) (x13 : Vec Ideal S1x128 .f32) (x14 : Vec Ideal S1x128 .f32) (x15 : Vec Ideal S128x64 .f32) (x16 : Vec Ideal S1x64 .f32) :
    (kernelRun0_A.sl.v591 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) = rows (reads (kernelRun0_A.sl.r_4 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) (kvK c arg1 harg1 arg2 harg2 arg3 harg3 arg4 harg4 arg22 x0 x1 x2 x3)) := rfl

/-- The second round's recurrent unit. -/
theorem v615_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x64 .f32) (harg16 : arg16.IsWhole) (arg17 : Memref sig .tc .vmem S1x64 .f32) (harg17 : arg17.IsWhole) (arg22 : Memref sig .tc .vmem S8x197x128 .bf16) (x0 : Vec Ideal S8x197x768 .f32) (x1 : Vec Ideal S768x128 .bf16) (x2 : Vec Ideal S1x128 .f32) (x3 : Vec Ideal S1x128 .f32) (x4 : Vec Ideal S128x64 .f32) (x5 : Vec Ideal S64x128 .f32) (x6 : Vec Ideal S1x128 .f32) (x7 : Vec Ideal S1x128 .f32) (x8 : Vec Ideal S192x128 .f32) (x9 : Vec Ideal S192x64 .f32) (x10 : Vec Ideal S1x192 .f32) (x11 : Vec Ideal S1x192 .f32) (x12 : Vec Ideal S64x128 .f32) (x13 : Vec Ideal S1x128 .f32) (x14 : Vec Ideal S1x128 .f32) (x15 : Vec Ideal S128x64 .f32) (x16 : Vec Ideal S1x64 .f32) :
    (kernelRun0_A.sl.v615 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) = unit (gx (kernelRun0_A.sl.v591 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) (kernelRun0_A.sl.v7 (F := Ideal) c arg9 harg9 x8) (kernelRun0_A.sl.v10 (F := Ideal) c arg11 harg11 x10)) (gh (kernelRun0_A.sl.v464 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) (kernelRun0_A.sl.r (F := Ideal) c arg10 harg10 x9) (kernelRun0_A.sl.v12 (F := Ideal) c arg12 harg12 x11)) (kernelRun0_A.sl.v464 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) := rfl

/-- The second round's last layers. -/
theorem lv645_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x64 .f32) (harg16 : arg16.IsWhole) (arg17 : Memref sig .tc .vmem S1x64 .f32) (harg17 : arg17.IsWhole) (arg22 : Memref sig .tc .vmem S8x197x128 .bf16) (x0 : Vec Ideal S8x197x768 .f32) (x1 : Vec Ideal S768x128 .bf16) (x2 : Vec Ideal S1x128 .f32) (x3 : Vec Ideal S1x128 .f32) (x4 : Vec Ideal S128x64 .f32) (x5 : Vec Ideal S64x128 .f32) (x6 : Vec Ideal S1x128 .f32) (x7 : Vec Ideal S1x128 .f32) (x8 : Vec Ideal S192x128 .f32) (x9 : Vec Ideal S192x64 .f32) (x10 : Vec Ideal S1x192 .f32) (x11 : Vec Ideal S1x192 .f32) (x12 : Vec Ideal S64x128 .f32) (x13 : Vec Ideal S1x128 .f32) (x14 : Vec Ideal S1x128 .f32) (x15 : Vec Ideal S128x64 .f32) (x16 : Vec Ideal S1x64 .f32) :
    (kernelRun0_A.sl.v645 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) = last (kernelRun0_A.sl.v615 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) (kernelRun0_A.sl.v14 (F := Ideal) c arg13 harg13 x12) (kernelRun0_A.sl.v16 (F := Ideal) c arg14 harg14 x13) (kernelRun0_A.sl.v18 (F := Ideal) c arg15 harg15 x14) (kernelRun0_A.sl.r_1 (F := Ideal) c arg16 harg16 x15) (kernelRun0_A.sl.v21 (F := Ideal) c arg17 harg17 x16) := rfl

/-- The second round. -/
theorem v645_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x64 .f32) (harg16 : arg16.IsWhole) (arg17 : Memref sig .tc .vmem S1x64 .f32) (harg17 : arg17.IsWhole) (arg22 : Memref sig .tc .vmem S8x197x128 .bf16) (x0 : Vec Ideal S8x197x768 .f32) (x1 : Vec Ideal S768x128 .bf16) (x2 : Vec Ideal S1x128 .f32) (x3 : Vec Ideal S1x128 .f32) (x4 : Vec Ideal S128x64 .f32) (x5 : Vec Ideal S64x128 .f32) (x6 : Vec Ideal S1x128 .f32) (x7 : Vec Ideal S1x128 .f32) (x8 : Vec Ideal S192x128 .f32) (x9 : Vec Ideal S192x64 .f32) (x10 : Vec Ideal S1x192 .f32) (x11 : Vec Ideal S1x192 .f32) (x12 : Vec Ideal S64x128 .f32) (x13 : Vec Ideal S1x128 .f32) (x14 : Vec Ideal S1x128 .f32) (x15 : Vec Ideal S128x64 .f32) (x16 : Vec Ideal S1x64 .f32) :
    (kernelRun0_A.sl.v645 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) = round (kvK c arg1 harg1 arg2 harg2 arg3 harg3 arg4 harg4 arg22 x0 x1 x2 x3) (kernelRun0_A.sl.v1 (F := Ideal) c arg6 harg6 x5) (kernelRun0_A.sl.v3 (F := Ideal) c arg7 harg7 x6) (kernelRun0_A.sl.v5 (F := Ideal) c arg8 harg8 x7) (kernelRun0_A.sl.v7 (F := Ideal) c arg9 harg9 x8) (kernelRun0_A.sl.r (F := Ideal) c arg10 harg10 x9) (kernelRun0_A.sl.v10 (F := Ideal) c arg11 harg11 x10) (kernelRun0_A.sl.v12 (F := Ideal) c arg12 harg12 x11) (kernelRun0_A.sl.v14 (F := Ideal) c arg13 harg13 x12) (kernelRun0_A.sl.v16 (F := Ideal) c arg14 harg14 x13) (kernelRun0_A.sl.v18 (F := Ideal) c arg15 harg15 x14) (kernelRun0_A.sl.r_1 (F := Ideal) c arg16 harg16 x15) (kernelRun0_A.sl.v21 (F := Ideal) c arg17 harg17 x16) (kernelRun0_A.sl.v464 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) := by
  rw [lv645_eq, v615_eq, v591_eq, r_4_eq, v489_eq]; rfl

/-- The third round's queries. -/
theorem v670_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x64 .f32) (harg16 : arg16.IsWhole) (arg17 : Memref sig .tc .vmem S1x64 .f32) (harg17 : arg17.IsWhole) (arg22 : Memref sig .tc .vmem S8x197x128 .bf16) (x0 : Vec Ideal S8x197x768 .f32) (x1 : Vec Ideal S768x128 .bf16) (x2 : Vec Ideal S1x128 .f32) (x3 : Vec Ideal S1x128 .f32) (x4 : Vec Ideal S128x64 .f32) (x5 : Vec Ideal S64x128 .f32) (x6 : Vec Ideal S1x128 .f32) (x7 : Vec Ideal S1x128 .f32) (x8 : Vec Ideal S192x128 .f32) (x9 : Vec Ideal S192x64 .f32) (x10 : Vec Ideal S1x192 .f32) (x11 : Vec Ideal S1x192 .f32) (x12 : Vec Ideal S64x128 .f32) (x13 : Vec Ideal S1x128 .f32) (x14 : Vec Ideal S1x128 .f32) (x15 : Vec Ideal S128x64 .f32) (x16 : Vec Ideal S1x64 .f32) :
    (kernelRun0_A.sl.v670 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) = truncf .bf16 (lnDot (kernelRun0_A.sl.v645 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) (kernelRun0_A.sl.v1 (F := Ideal) c arg6 harg6 x5) (kernelRun0_A.sl.v3 (F := Ideal) c arg7 harg7 x6) (kernelRun0_A.sl.v5 (F := Ideal) c arg8 harg8 x7)) bitsLt_bf16_f32 := rfl

/-- The third round's attention. -/
theorem v731_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x64 .f32) (harg16 : arg16.IsWhole) (arg17 : Memref sig .tc .vmem S1x64 .f32) (harg17 : arg17.IsWhole) (arg22 : Memref sig .tc .vmem S8x197x128 .bf16) (x0 : Vec Ideal S8x197x768 .f32) (x1 : Vec Ideal S768x128 .bf16) (x2 : Vec Ideal S1x128 .f32) (x3 : Vec Ideal S1x128 .f32) (x4 : Vec Ideal S128x64 .f32) (x5 : Vec Ideal S64x128 .f32) (x6 : Vec Ideal S1x128 .f32) (x7 : Vec Ideal S1x128 .f32) (x8 : Vec Ideal S192x128 .f32) (x9 : Vec Ideal S192x64 .f32) (x10 : Vec Ideal S1x192 .f32) (x11 : Vec Ideal S1x192 .f32) (x12 : Vec Ideal S64x128 .f32) (x13 : Vec Ideal S1x128 .f32) (x14 : Vec Ideal S1x128 .f32) (x15 : Vec Ideal S128x64 .f32) (x16 : Vec Ideal S1x64 .f32) :
    (kernelRun0_A.sl.v731 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) = norm (weig (expo (masked (stack (score (kernelRun0_A.sl.v670 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) (kvK c arg1 harg1 arg2 harg2 arg3 harg3 arg4 harg4 arg22 x0 x1 x2 x3)))))) := rfl

/-- What the third round's slots read. -/
theorem v772_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x64 .f32) (harg16 : arg16.IsWhole) (arg17 : Memref sig .tc .vmem S1x64 .f32) (harg17 : arg17.IsWhole) (arg22 : Memref sig .tc .vmem S8x197x128 .bf16) (x0 : Vec Ideal S8x197x768 .f32) (x1 : Vec Ideal S768x128 .bf16) (x2 : Vec Ideal S1x128 .f32) (x3 : Vec Ideal S1x128 .f32) (x4 : Vec Ideal S128x64 .f32) (x5 : Vec Ideal S64x128 .f32) (x6 : Vec Ideal S1x128 .f32) (x7 : Vec Ideal S1x128 .f32) (x8 : Vec Ideal S192x128 .f32) (x9 : Vec Ideal S192x64 .f32) (x10 : Vec Ideal S1x192 .f32) (x11 : Vec Ideal S1x192 .f32) (x12 : Vec Ideal S64x128 .f32) (x13 : Vec Ideal S1x128 .f32) (x14 : Vec Ideal S1x128 .f32) (x15 : Vec Ideal S128x64 .f32) (x16 : Vec Ideal S1x64 .f32) :
    (kernelRun0_A.sl.v772 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) = rows (reads (kernelRun0_A.sl.v731 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) (kvK c arg1 harg1 arg2 harg2 arg3 harg3 arg4 harg4 arg22 x0 x1 x2 x3)) := rfl

/-- The third round's recurrent unit. -/
theorem v796_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x64 .f32) (harg16 : arg16.IsWhole) (arg17 : Memref sig .tc .vmem S1x64 .f32) (harg17 : arg17.IsWhole) (arg22 : Memref sig .tc .vmem S8x197x128 .bf16) (x0 : Vec Ideal S8x197x768 .f32) (x1 : Vec Ideal S768x128 .bf16) (x2 : Vec Ideal S1x128 .f32) (x3 : Vec Ideal S1x128 .f32) (x4 : Vec Ideal S128x64 .f32) (x5 : Vec Ideal S64x128 .f32) (x6 : Vec Ideal S1x128 .f32) (x7 : Vec Ideal S1x128 .f32) (x8 : Vec Ideal S192x128 .f32) (x9 : Vec Ideal S192x64 .f32) (x10 : Vec Ideal S1x192 .f32) (x11 : Vec Ideal S1x192 .f32) (x12 : Vec Ideal S64x128 .f32) (x13 : Vec Ideal S1x128 .f32) (x14 : Vec Ideal S1x128 .f32) (x15 : Vec Ideal S128x64 .f32) (x16 : Vec Ideal S1x64 .f32) :
    (kernelRun0_A.sl.v796 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) = unit (gx (kernelRun0_A.sl.v772 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) (kernelRun0_A.sl.v7 (F := Ideal) c arg9 harg9 x8) (kernelRun0_A.sl.v10 (F := Ideal) c arg11 harg11 x10)) (gh (kernelRun0_A.sl.v645 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) (kernelRun0_A.sl.r (F := Ideal) c arg10 harg10 x9) (kernelRun0_A.sl.v12 (F := Ideal) c arg12 harg12 x11)) (kernelRun0_A.sl.v645 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) := rfl

/-- The third round's last layers. -/
theorem lv826_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x64 .f32) (harg16 : arg16.IsWhole) (arg17 : Memref sig .tc .vmem S1x64 .f32) (harg17 : arg17.IsWhole) (arg22 : Memref sig .tc .vmem S8x197x128 .bf16) (x0 : Vec Ideal S8x197x768 .f32) (x1 : Vec Ideal S768x128 .bf16) (x2 : Vec Ideal S1x128 .f32) (x3 : Vec Ideal S1x128 .f32) (x4 : Vec Ideal S128x64 .f32) (x5 : Vec Ideal S64x128 .f32) (x6 : Vec Ideal S1x128 .f32) (x7 : Vec Ideal S1x128 .f32) (x8 : Vec Ideal S192x128 .f32) (x9 : Vec Ideal S192x64 .f32) (x10 : Vec Ideal S1x192 .f32) (x11 : Vec Ideal S1x192 .f32) (x12 : Vec Ideal S64x128 .f32) (x13 : Vec Ideal S1x128 .f32) (x14 : Vec Ideal S1x128 .f32) (x15 : Vec Ideal S128x64 .f32) (x16 : Vec Ideal S1x64 .f32) :
    (kernelRun0_A.sl.v826 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) = last (kernelRun0_A.sl.v796 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) (kernelRun0_A.sl.v14 (F := Ideal) c arg13 harg13 x12) (kernelRun0_A.sl.v16 (F := Ideal) c arg14 harg14 x13) (kernelRun0_A.sl.v18 (F := Ideal) c arg15 harg15 x14) (kernelRun0_A.sl.r_1 (F := Ideal) c arg16 harg16 x15) (kernelRun0_A.sl.v21 (F := Ideal) c arg17 harg17 x16) := rfl

/-- The third round. -/
theorem v826_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x64 .f32) (harg16 : arg16.IsWhole) (arg17 : Memref sig .tc .vmem S1x64 .f32) (harg17 : arg17.IsWhole) (arg22 : Memref sig .tc .vmem S8x197x128 .bf16) (x0 : Vec Ideal S8x197x768 .f32) (x1 : Vec Ideal S768x128 .bf16) (x2 : Vec Ideal S1x128 .f32) (x3 : Vec Ideal S1x128 .f32) (x4 : Vec Ideal S128x64 .f32) (x5 : Vec Ideal S64x128 .f32) (x6 : Vec Ideal S1x128 .f32) (x7 : Vec Ideal S1x128 .f32) (x8 : Vec Ideal S192x128 .f32) (x9 : Vec Ideal S192x64 .f32) (x10 : Vec Ideal S1x192 .f32) (x11 : Vec Ideal S1x192 .f32) (x12 : Vec Ideal S64x128 .f32) (x13 : Vec Ideal S1x128 .f32) (x14 : Vec Ideal S1x128 .f32) (x15 : Vec Ideal S128x64 .f32) (x16 : Vec Ideal S1x64 .f32) :
    (kernelRun0_A.sl.v826 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) = round (kvK c arg1 harg1 arg2 harg2 arg3 harg3 arg4 harg4 arg22 x0 x1 x2 x3) (kernelRun0_A.sl.v1 (F := Ideal) c arg6 harg6 x5) (kernelRun0_A.sl.v3 (F := Ideal) c arg7 harg7 x6) (kernelRun0_A.sl.v5 (F := Ideal) c arg8 harg8 x7) (kernelRun0_A.sl.v7 (F := Ideal) c arg9 harg9 x8) (kernelRun0_A.sl.r (F := Ideal) c arg10 harg10 x9) (kernelRun0_A.sl.v10 (F := Ideal) c arg11 harg11 x10) (kernelRun0_A.sl.v12 (F := Ideal) c arg12 harg12 x11) (kernelRun0_A.sl.v14 (F := Ideal) c arg13 harg13 x12) (kernelRun0_A.sl.v16 (F := Ideal) c arg14 harg14 x13) (kernelRun0_A.sl.v18 (F := Ideal) c arg15 harg15 x14) (kernelRun0_A.sl.r_1 (F := Ideal) c arg16 harg16 x15) (kernelRun0_A.sl.v21 (F := Ideal) c arg17 harg17 x16) (kernelRun0_A.sl.v645 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) := by
  rw [lv826_eq, v796_eq, v772_eq, v731_eq, v670_eq]; rfl

/-- The projection of the slots. -/
theorem v831_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x64 .f32) (harg16 : arg16.IsWhole) (arg17 : Memref sig .tc .vmem S1x64 .f32) (harg17 : arg17.IsWhole) (arg18 : Memref sig .tc .vmem S64x768 .f32) (harg18 : arg18.IsWhole) (arg19 : Memref sig .tc .vmem S1x768 .f32) (harg19 : arg19.IsWhole) (arg22 : Memref sig .tc .vmem S8x197x128 .bf16) (x0 : Vec Ideal S8x197x768 .f32) (x1 : Vec Ideal S768x128 .bf16) (x2 : Vec Ideal S1x128 .f32) (x3 : Vec Ideal S1x128 .f32) (x4 : Vec Ideal S128x64 .f32) (x5 : Vec Ideal S64x128 .f32) (x6 : Vec Ideal S1x128 .f32) (x7 : Vec Ideal S1x128 .f32) (x8 : Vec Ideal S192x128 .f32) (x9 : Vec Ideal S192x64 .f32) (x10 : Vec Ideal S1x192 .f32) (x11 : Vec Ideal S1x192 .f32) (x12 : Vec Ideal S64x128 .f32) (x13 : Vec Ideal S1x128 .f32) (x14 : Vec Ideal S1x128 .f32) (x15 : Vec Ideal S128x64 .f32) (x16 : Vec Ideal S1x64 .f32) (x17 : Vec Ideal S64x768 .f32) (x18 : Vec Ideal S1x768 .f32) :
    (kernelRun0_A.sl.v831 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 x0 x1 x2 x3 x4 x5 x6 x7 x8 x9 x10 x11 x12 x13 x14 x15 x16 x17 x18) = proj2 (kernelRun0_A.sl.v826 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) (kernelRun0_A.sl.r_2 (F := Ideal) c arg18 harg18 x17) (kernelRun0_A.sl.v281 (F := Ideal) c arg19 harg19 x18) := rfl

end Cert.KernelIdeal.KVal

end
-- ==== Proof.KRead.lean ====
/- What the kernel's body leaves in its outputs' windows, of real windows: the model's slots and their projection. -/
module

public import proofs.«01_k».proof.Proof.KRun
public import Idealize.ShloMosaic.Lib.Pipeline.ValueKit.Basic
public import Idealize.ShloMosaic.Lib.Pipeline.ValueKit.Tiles

@[expose] public section

noncomputable section

namespace Cert.KernelIdeal.KVal

open Cert.KernelIdeal Cert.KernelIdeal.Gen Idealize.ShloMosaic Cert.Model

/-- A load of a whole window reads what the window holds. -/
theorem win_read {S : Shape} {e : EltTy} (arg : Memref sig .tc .vmem S e) (harg : arg.IsWhole) (x : Vec Ideal S e) {off : Fin S.rank → Nat}
    (inb : ∀ a, off a + S.size a ≤ S.size a) (h : ∀ a, off a = 0) :
    View.readAt (Elt Ideal) arg.view (Rect.unit off S.size inb).toLoadRect (harg.unread x) = x := by
  rw [View.readAt_eq_ld, harg.read_unread]
  exact View.ld_unit_lit _ _ h

/-- Window 5 as the run reads it. -/
theorem v1_eq (c : Dev nD) (arg6 : Memref sig .tc .vmem S64x128 .f32) (harg6 : arg6.IsWhole) (x5 : Vec Ideal S64x128 .f32) :
    (kernelRun0_A.sl.v1 (F := Ideal) c arg6 harg6 x5) = x5 := by
  have h := win_read arg6 harg6 x5 (off := ![0, 0]) (by decide) (by decide)
  exact (shapeCast_self _ _).trans h

/-- Window 6 as the run reads it. -/
theorem v3_eq (c : Dev nD) (arg7 : Memref sig .tc .vmem S1x128 .f32) (harg7 : arg7.IsWhole) (x6 : Vec Ideal S1x128 .f32) :
    (kernelRun0_A.sl.v3 (F := Ideal) c arg7 harg7 x6) = x6 := by
  have h := win_read arg7 harg7 x6 (off := ![0, 0]) (by decide) (by decide)
  exact (shapeCast_self _ _).trans h

/-- Window 7 as the run reads it. -/
theorem v5_eq (c : Dev nD) (arg8 : Memref sig .tc .vmem S1x128 .f32) (harg8 : arg8.IsWhole) (x7 : Vec Ideal S1x128 .f32) :
    (kernelRun0_A.sl.v5 (F := Ideal) c arg8 harg8 x7) = x7 := by
  have h := win_read arg8 harg8 x7 (off := ![0, 0]) (by decide) (by decide)
  exact (shapeCast_self _ _).trans h

/-- Window 8 as the run reads it. -/
theorem v7_eq (c : Dev nD) (arg9 : Memref sig .tc .vmem S192x128 .f32) (harg9 : arg9.IsWhole) (x8 : Vec Ideal S192x128 .f32) :
    (kernelRun0_A.sl.v7 (F := Ideal) c arg9 harg9 x8) = x8 := by
  have h := win_read arg9 harg9 x8 (off := ![0, 0]) (by decide) (by decide)
  exact (shapeCast_self _ _).trans h

/-- Window 9 as the run reads it. -/
theorem r_eq (c : Dev nD) (arg10 : Memref sig .tc .vmem S192x64 .f32) (harg10 : arg10.IsWhole) (x9 : Vec Ideal S192x64 .f32) :
    (kernelRun0_A.sl.r (F := Ideal) c arg10 harg10 x9) = x9 := win_read _ _ _ _ (by decide)

/-- Window 10 as the run reads it. -/
theorem v10_eq (c : Dev nD) (arg11 : Memref sig .tc .vmem S1x192 .f32) (harg11 : arg11.IsWhole) (x10 : Vec Ideal S1x192 .f32) :
    (kernelRun0_A.sl.v10 (F := Ideal) c arg11 harg11 x10) = x10 := by
  have h := win_read arg11 harg11 x10 (off := ![0, 0]) (by decide) (by decide)
  exact (shapeCast_self _ _).trans h

/-- Window 11 as the run reads it. -/
theorem v12_eq (c : Dev nD) (arg12 : Memref sig .tc .vmem S1x192 .f32) (harg12 : arg12.IsWhole) (x11 : Vec Ideal S1x192 .f32) :
    (kernelRun0_A.sl.v12 (F := Ideal) c arg12 harg12 x11) = x11 := by
  have h := win_read arg12 harg12 x11 (off := ![0, 0]) (by decide) (by decide)
  exact (shapeCast_self _ _).trans h

/-- Window 12 as the run reads it. -/
theorem v14_eq (c : Dev nD) (arg13 : Memref sig .tc .vmem S64x128 .f32) (harg13 : arg13.IsWhole) (x12 : Vec Ideal S64x128 .f32) :
    (kernelRun0_A.sl.v14 (F := Ideal) c arg13 harg13 x12) = x12 := by
  have h := win_read arg13 harg13 x12 (off := ![0, 0]) (by decide) (by decide)
  exact (shapeCast_self _ _).trans h

/-- Window 13 as the run reads it. -/
theorem v16_eq (c : Dev nD) (arg14 : Memref sig .tc .vmem S1x128 .f32) (harg14 : arg14.IsWhole) (x13 : Vec Ideal S1x128 .f32) :
    (kernelRun0_A.sl.v16 (F := Ideal) c arg14 harg14 x13) = x13 := by
  have h := win_read arg14 harg14 x13 (off := ![0, 0]) (by decide) (by decide)
  exact (shapeCast_self _ _).trans h

/-- Window 14 as the run reads it. -/
theorem v18_eq (c : Dev nD) (arg15 : Memref sig .tc .vmem S1x128 .f32) (harg15 : arg15.IsWhole) (x14 : Vec Ideal S1x128 .f32) :
    (kernelRun0_A.sl.v18 (F := Ideal) c arg15 harg15 x14) = x14 := by
  have h := win_read arg15 harg15 x14 (off := ![0, 0]) (by decide) (by decide)
  exact (shapeCast_self _ _).trans h

/-- Window 15 as the run reads it. -/
theorem r_1_eq (c : Dev nD) (arg16 : Memref sig .tc .vmem S128x64 .f32) (harg16 : arg16.IsWhole) (x15 : Vec Ideal S128x64 .f32) :
    (kernelRun0_A.sl.r_1 (F := Ideal) c arg16 harg16 x15) = x15 := win_read _ _ _ _ (by decide)

/-- Window 16 as the run reads it. -/
theorem v21_eq (c : Dev nD) (arg17 : Memref sig .tc .vmem S1x64 .f32) (harg17 : arg17.IsWhole) (x16 : Vec Ideal S1x64 .f32) :
    (kernelRun0_A.sl.v21 (F := Ideal) c arg17 harg17 x16) = x16 := by
  have h := win_read arg17 harg17 x16 (off := ![0, 0]) (by decide) (by decide)
  exact (shapeCast_self _ _).trans h

/-- Window 1 as the run reads it. -/
theorem v23_eq (c : Dev nD) (arg2 : Memref sig .tc .vmem S768x128 .bf16) (harg2 : arg2.IsWhole) (x1 : Vec Ideal S768x128 .bf16) :
    (kernelRun0_A.sl.v23 (F := Ideal) c arg2 harg2 x1) = x1 := by
  have h := win_read arg2 harg2 x1 (off := ![0, 0]) (by decide) (by decide)
  exact (shapeCast_self _ _).trans h

/-- Window 2 as the run reads it. -/
theorem v25_eq (c : Dev nD) (arg3 : Memref sig .tc .vmem S1x128 .f32) (harg3 : arg3.IsWhole) (x2 : Vec Ideal S1x128 .f32) :
    (kernelRun0_A.sl.v25 (F := Ideal) c arg3 harg3 x2) = x2 := by
  have h := win_read arg3 harg3 x2 (off := ![0, 0]) (by decide) (by decide)
  exact (shapeCast_self _ _).trans h

/-- Window 3 as the run reads it. -/
theorem v27_eq (c : Dev nD) (arg4 : Memref sig .tc .vmem S1x128 .f32) (harg4 : arg4.IsWhole) (x3 : Vec Ideal S1x128 .f32) :
    (kernelRun0_A.sl.v27 (F := Ideal) c arg4 harg4 x3) = x3 := by
  have h := win_read arg4 harg4 x3 (off := ![0, 0]) (by decide) (by decide)
  exact (shapeCast_self _ _).trans h

/-- Window 17 as the run reads it. -/
theorem r_2_eq (c : Dev nD) (arg18 : Memref sig .tc .vmem S64x768 .f32) (harg18 : arg18.IsWhole) (x17 : Vec Ideal S64x768 .f32) :
    (kernelRun0_A.sl.r_2 (F := Ideal) c arg18 harg18 x17) = x17 := win_read _ _ _ _ (by decide)

/-- Window 18 as the run reads it. -/
theorem v281_eq (c : Dev nD) (arg19 : Memref sig .tc .vmem S1x768 .f32) (harg19 : arg19.IsWhole) (x18 : Vec Ideal S1x768 .f32) :
    (kernelRun0_A.sl.v281 (F := Ideal) c arg19 harg19 x18) = x18 := by
  have h := win_read arg19 harg19 x18 (off := ![0, 0]) (by decide) (by decide)
  exact (shapeCast_self _ _).trans h

/-- Window 4 as the run reads it. -/
theorem v283_eq (c : Dev nD) (arg5 : Memref sig .tc .vmem S128x64 .f32) (harg5 : arg5.IsWhole) (x4 : Vec Ideal S128x64 .f32) :
    (kernelRun0_A.sl.v283 (F := Ideal) c arg5 harg5 x4) = x4 := by
  have h := win_read arg5 harg5 x4 (off := ![0, 0]) (by decide) (by decide)
  exact (shapeCast_self _ _).trans h

/-- One matrix of eight lies in the features' window. -/
theorem fitsX (b : Fin 8) : ∀ a, (![b.val, 0, 0] : Fin 3 → Nat) a + S1x197x768.size a ≤ S8x197x768.size a := by
  revert b; decide

/-- Batch element `b`'s features, as the run reads them. -/
def feat (arg1 : Memref sig .tc .vmem S8x197x768 .f32) (harg1 : arg1.IsWhole) (x0 : Vec Ideal S8x197x768 .f32) (b : Fin 8) : FVec Ideal S197x768 .f32 :=
  shapeCast S197x768 (View.readAt (Elt Ideal) arg1.view (Rect.unit (s := S8x197x768) ![b.val, 0, 0] S1x197x768.size (fitsX b)).toLoadRect (harg1.unread x0)) shapeCasts_S1x197x768_S197x768

/-- A matrix of one, as a matrix. -/
theorem unstackX_apply (g : FVec Ideal S1x197x768 .f32) (n : Fin 197) (k : Fin 768) :
    shapeCast S197x768 g shapeCasts_S1x197x768_S197x768 (ix2 n k) = g (ix3 0 n k) := by
  pointwise []

/-- They are the window's. -/
theorem feat_apply (arg1 : Memref sig .tc .vmem S8x197x768 .f32) (harg1 : arg1.IsWhole) (x0 : Vec Ideal S8x197x768 .f32) (b : Fin 8) (n : Fin 197)
    (k : Fin 768) : feat arg1 harg1 x0 b (ix2 n k) = x0 (ix3 b n k) := by
  unfold feat
  rw [View.readAt_eq_ld, harg1.read_unread, unstackX_apply]
  refine View.ld_unit_apply_of (S := S8x197x768) x0 _ _ _ _ (ix3 b n k) fun a => ?_
  fin_cases a <;> simp

/-- The piece of the scratch buffer that batch element `b` writes. -/
def pieceK (f : FVec Ideal S197x128 .bf16) (b : Fin 8) : View.Piece (Elt Ideal) S8x197x128 .bf16 :=
  ⟨Rect.unit (s := S8x197x128) ![b.val, 0, 0] S1x197x128.size (fits b), shapeCast S1x197x128 f shapeCasts_S197x128_S1x197x128⟩

/-- The eight pieces. -/
def piecesK (f : Fin 8 → FVec Ideal S197x128 .bf16) : List (View.Piece (Elt Ideal) S8x197x128 .bf16) :=
  [pieceK (f 7) 7, pieceK (f 6) 6, pieceK (f 5) 5, pieceK (f 4) 4, pieceK (f 3) 3, pieceK (f 2) 2, pieceK (f 1) 1, pieceK (f 0) 0]

/-- Each of the eight is among them, and nothing else is. -/
theorem mem_piecesK (f : Fin 8 → FVec Ideal S197x128 .bf16) (p : View.Piece (Elt Ideal) S8x197x128 .bf16) :
    p ∈ piecesK f ↔ ∃ b, p = pieceK (f b) b := by
  constructor
  · intro h
    simp only [piecesK, List.mem_cons, List.not_mem_nil, or_false] at h
    rcases h with h | h | h | h | h | h | h | h <;> exact ⟨_, h⟩
  · rintro ⟨b, rfl⟩
    fin_cases b <;> simp [piecesK]

/-- A piece's value at an index. -/
theorem pieceK_apply (f : Fin 8 → FVec Ideal S197x128 .bf16) (b : Fin 8) (x : (pieceK (f b) b).1.shape.Idx) :
    (pieceK (f b) b).2 x = (fun y : S8x197x128.Idx => f (y 0) (ix2 (y 1) (y 2))) ((pieceK (f b) b).1.emb x) := by
  have hx : x = ix3 (n0 := 1) (n1 := 197) (n2 := 128) 0 (x 1) (x 2) := by
    refine (ValueIdx.eq_ix3 (n0 := 1) (n1 := 197) (n2 := 128) x).trans ?_
    congr 1
    exact Subsingleton.elim (α := Fin 1) _ _
  have h0 : (pieceK (f b) b).1.emb x 0 = b := Fin.ext (by
    have h : (x 0).val = 0 := Nat.lt_one_iff.mp (x 0).isLt
    show b.val + 1 * (x 0).val = b.val
    omega)
  have h1 : (pieceK (f b) b).1.emb x 1 = x 1 := Fin.ext (by show 0 + 1 * (x 1).val = (x 1).val; omega)
  have h2 : (pieceK (f b) b).1.emb x 2 = x 2 := Fin.ext (by show 0 + 1 * (x 2).val = (x 2).val; omega)
  show _ = f ((pieceK (f b) b).1.emb x 0) (ix2 ((pieceK (f b) b).1.emb x 1) ((pieceK (f b) b).1.emb x 2))
  rw [h0, h1, h2]
  show shapeCast S1x197x128 (f b) shapeCasts_S197x128_S1x197x128 x = _
  rw [hx]
  pointwise []

/-- A matrix of one, as a matrix. -/
theorem unstack_apply (g : FVec Ideal S1x197x128 .bf16) (n : Fin 197) (j : Fin 128) :
    shapeCast S197x128 g shapeCasts_S1x197x128_S197x128 (ix2 n j) = g (ix3 0 n j) := by
  pointwise []

/-- What the rounds read back is what was written. -/
theorem back_apply (v : View sig .tc .vmem S8x197x128 .bf16) (f : Fin 8 → FVec Ideal S197x128 .bf16) (b : Fin 8) (n : Fin 197) (j : Fin 128) :
    shapeCast S197x128 (v.readCov (piecesK f) (Rect.unit (s := S8x197x128) ![b.val, 0, 0] S1x197x128.size (fits b)).toLoadRect) shapeCasts_S1x197x128_S197x128 (ix2 n j)
      = f b (ix2 n j) := by
  rw [View.readCov_eq_canon', unstack_apply]
  set r := (Rect.unit (s := S8x197x128) ![b.val, 0, 0] S1x197x128.size (fits b)) with hr
  refine (View.canon_apply_of_pieces (fun y : S8x197x128.Idx => f (y 0) (ix2 (y 1) (y 2))) (piecesK f) (fun p hp x => ?_) _
    ⟨pieceK (f b) b, (mem_piecesK f _).mpr ⟨b, rfl⟩, r.idx_mem _⟩).trans ?_
  · obtain ⟨b', rfl⟩ := (mem_piecesK f p).mp hp
    exact pieceK_apply f b' x
  · have h0 : ∀ x : S1x197x128.Idx, r.toLoadRect.idx x 0 = b := fun x => Fin.ext (by
      have h : (x 0).val = 0 := Nat.lt_one_iff.mp (x 0).isLt
      show b.val + 1 * (x 0).val = b.val
      omega)
    have h1 : ∀ x : S1x197x128.Idx, r.toLoadRect.idx x 1 = x 1 := fun x => Fin.ext (by show 0 + 1 * (x 1).val = (x 1).val; omega)
    have h2 : ∀ x : S1x197x128.Idx, r.toLoadRect.idx x 2 = x 2 := fun x => Fin.ext (by show 0 + 1 * (x 2).val = (x 2).val; omega)
    show f (r.toLoadRect.idx _ 0) (ix2 (r.toLoadRect.idx _ 1) (r.toLoadRect.idx _ 2)) = _
    rw [h0, h1, h2]
    rfl

set_option maxHeartbeats 4000000 in
/-- The scratch buffer's pieces. -/
theorem HS0_8_eq (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (x0 : Vec Ideal S8x197x768 .f32) (x1 : Vec Ideal S768x128 .bf16) (x2 : Vec Ideal S1x128 .f32) (x3 : Vec Ideal S1x128 .f32) :
    (kernelRun0_A.sl.HS0_8 (F := Ideal) c arg1 harg1 arg2 harg2 arg3 harg3 arg4 harg4 x0 x1 x2 x3) = piecesK (fun b => kvBlk (feat arg1 harg1 x0 b) (kernelRun0_A.sl.v23 (F := Ideal) c arg2 harg2 x1) (kernelRun0_A.sl.v25 (F := Ideal) c arg3 harg3 x2) (kernelRun0_A.sl.v27 (F := Ideal) c arg4 harg4 x3)) := rfl

/-- The keys and values read back, of real features and weights. -/
theorem kvK_real {P : Par} {X : Fin 8 → Fin 197 → Fin 768 → ℝ} (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg22 : Memref sig .tc .vmem S8x197x128 .bf16) (x0 : Vec Ideal S8x197x768 .f32) (x1 : Vec Ideal S768x128 .bf16) (x2 : Vec Ideal S1x128 .f32) (x3 : Vec Ideal S1x128 .f32)
    (h0 : ∀ b n k, x0 (ix3 b n k) = ((X b n k : ℝ) : EReal)) (h1 : ∀ k j, x1 (ix2 k j) = ((P.gi k * wkvR P k j : ℝ) : EReal))
    (h2 : ∀ j, x2 (ix2 0 j) = ((∑ k, P.gi k * wkvR P k j : ℝ) : EReal)) (h3 : ∀ j, x3 (ix2 0 j) = ∑ k, P.bi k * (wkvR P k j : EReal))
    (b : Fin 8) (n : Fin 197) (j : Fin 128) :
    (kvK c arg1 harg1 arg2 harg2 arg3 harg3 arg4 harg4 arg22 x0 x1 x2 x3) b (ix2 n j) = kvR P (X b n) j := by
  unfold kvK
  rw [HS0_8_eq, v23_eq, v25_eq, v27_eq, back_apply]
  exact kvBlk_real (fun k => (feat_apply arg1 harg1 x0 b n k).trans (h0 b n k)) (fun k => h1 k j) (h2 j) (h3 j)

/-- The slots the kernel ends with: the model's three rounds. -/
theorem v826_real {P : Par} {X : Fin 8 → Fin 197 → Fin 768 → ℝ} (c : Dev nD) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x64 .f32) (harg16 : arg16.IsWhole) (arg17 : Memref sig .tc .vmem S1x64 .f32) (harg17 : arg17.IsWhole) (arg22 : Memref sig .tc .vmem S8x197x128 .bf16) (x0 : Vec Ideal S8x197x768 .f32) (x1 : Vec Ideal S768x128 .bf16) (x2 : Vec Ideal S1x128 .f32) (x3 : Vec Ideal S1x128 .f32) (x4 : Vec Ideal S128x64 .f32) (x5 : Vec Ideal S64x128 .f32) (x6 : Vec Ideal S1x128 .f32) (x7 : Vec Ideal S1x128 .f32) (x8 : Vec Ideal S192x128 .f32) (x9 : Vec Ideal S192x64 .f32) (x10 : Vec Ideal S1x192 .f32) (x11 : Vec Ideal S1x192 .f32) (x12 : Vec Ideal S64x128 .f32) (x13 : Vec Ideal S1x128 .f32) (x14 : Vec Ideal S1x128 .f32) (x15 : Vec Ideal S128x64 .f32) (x16 : Vec Ideal S1x64 .f32)
    (h0 : ∀ b n k, x0 (ix3 b n k) = ((X b n k : ℝ) : EReal)) (h1 : ∀ k j, x1 (ix2 k j) = ((P.gi k * wkvR P k j : ℝ) : EReal))
    (h2 : ∀ j, x2 (ix2 0 j) = ((∑ k, P.gi k * wkvR P k j : ℝ) : EReal)) (h3 : ∀ j, x3 (ix2 0 j) = ∑ k, P.bi k * (wkvR P k j : EReal))
    {S : Fin 16 → Fin 64 → ℝ} {b : Fin 8} (h4 : ∀ t d, x4 (ix2 (rowIx b t) d) = ((S t d : ℝ) : EReal)) (hS : ∀ t d, S (up t) d = P.s0 t d)
    (hW : Wts P x5 x6 x7 x8 x9 x10 x11 x12 x13 x14 x15 x16) (t : Fin 10) (d : Fin 64) :
    (kernelRun0_A.sl.v826 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) (ix2 (rowIx b (up t)) d) = ((slots P (X b) t d : ℝ) : EReal) := by
  rw [v826_eq, v645_eq, v464_eq, v1_eq, v3_eq, v5_eq, v7_eq, r_eq, v10_eq, v12_eq, v14_eq, v16_eq, v18_eq, r_1_eq, v21_eq, v283_eq]
  have hK := kvK_real c arg1 harg1 arg2 harg2 arg3 harg3 arg4 harg4 arg22 x0 x1 x2 x3 h0 h1 h2 h3
  have hR := fun {s : FVec Ideal S128x64 .f32} {S : Fin 16 → Fin 64 → ℝ} => round_real hW (b := b) (hK b) (s := s) (S := S)
  rw [hR (hR (hR h4)) (up t) d, step16_up]
  have e : (fun t => P.s0 t) = fun t => S (up t) := funext fun t => funext fun d => (hS t d).symm
  unfold slots
  simp only [step16_up]
  rw [← e]

/-- Ten rows from row `16 b` lie in the 128. -/
theorem slices_ten (b : Fin 8) : S128x768.Slices ![16 * b.val, 0] S10x768 := by
  revert b; decide

/-- Ten rows from row `16 b` lie in the 128. -/
theorem slices_ten' (b : Fin 8) : S128x64.Slices ![16 * b.val, 0] S10x64 := by
  revert b; decide

/-- One matrix of eight lies in output 19's window. -/
theorem fits19 (b : Fin 8) : ∀ a, (![b.val, 0, 0] : Fin 3 → Nat) a + S1x10x768.size a ≤ S8x10x768.size a := by
  revert b; decide

/-- The piece of output 19 that batch element `b` writes. -/
def piece19 (f : FVec Ideal S128x768 .f32) (b : Fin 8) : View.Piece (Elt Ideal) S8x10x768 .f32 :=
  ⟨Rect.unit (s := S8x10x768) ![b.val, 0, 0] S1x10x768.size (fits19 b),
    shapeCast S1x10x768 (extractStridedSlice S10x768 ![16 * b.val, 0] f (slices_ten b)) shapeCasts_S10x768_S1x10x768⟩

/-- A piece's value at an index. -/
theorem piece19_apply (f : FVec Ideal S128x768 .f32) (b : Fin 8) (x : (piece19 f b).1.shape.Idx) :
    (piece19 f b).2 x = (fun y : S8x10x768.Idx => f (ix2 (rowIx (y 0) (up (y 1))) (y 2))) ((piece19 f b).1.emb x) := by
  have hx : x = ix3 (n0 := 1) (n1 := 10) (n2 := 768) 0 (x 1) (x 2) := by
    refine (ValueIdx.eq_ix3 (n0 := 1) (n1 := 10) (n2 := 768) x).trans ?_
    congr 1
    exact Subsingleton.elim (α := Fin 1) _ _
  have h0 : (piece19 f b).1.emb x 0 = b := Fin.ext (by
    have h : (x 0).val = 0 := Nat.lt_one_iff.mp (x 0).isLt
    show b.val + 1 * (x 0).val = b.val
    omega)
  have h1 : (piece19 f b).1.emb x 1 = x 1 := Fin.ext (by show 0 + 1 * (x 1).val = (x 1).val; omega)
  have h2 : (piece19 f b).1.emb x 2 = x 2 := Fin.ext (by show 0 + 1 * (x 2).val = (x 2).val; omega)
  show _ = f (ix2 (rowIx ((piece19 f b).1.emb x 0) (up ((piece19 f b).1.emb x 1))) ((piece19 f b).1.emb x 2))
  rw [h0, h1, h2]
  show shapeCast S1x10x768 (extractStridedSlice S10x768 ![16 * b.val, 0] f (slices_ten b)) shapeCasts_S10x768_S1x10x768 x = _
  rw [hx]
  pointwise []
  rfl

/-- Output 19's pieces. -/
theorem pieces19 (c : Dev nD) (i : grid0.Coords) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x64 .f32) (harg16 : arg16.IsWhole) (arg17 : Memref sig .tc .vmem S1x64 .f32) (harg17 : arg17.IsWhole) (arg18 : Memref sig .tc .vmem S64x768 .f32) (harg18 : arg18.IsWhole) (arg19 : Memref sig .tc .vmem S1x768 .f32) (harg19 : arg19.IsWhole) (arg20 : Memref sig .tc .vmem S8x10x768 .f32) (harg20 : arg20.IsWhole) (arg21 : Memref sig .tc .vmem S8x10x64 .f32) (harg21 : arg21.IsWhole) (arg22 : Memref sig .tc .vmem S8x197x128 .bf16) (harg22 : arg22.IsWhole) (x0 : Vec Ideal S8x197x768 .f32) (x1 : Vec Ideal S768x128 .bf16) (x2 : Vec Ideal S1x128 .f32) (x3 : Vec Ideal S1x128 .f32) (x4 : Vec Ideal S128x64 .f32) (x5 : Vec Ideal S64x128 .f32) (x6 : Vec Ideal S1x128 .f32) (x7 : Vec Ideal S1x128 .f32) (x8 : Vec Ideal S192x128 .f32) (x9 : Vec Ideal S192x64 .f32) (x10 : Vec Ideal S1x192 .f32) (x11 : Vec Ideal S1x192 .f32) (x12 : Vec Ideal S64x128 .f32) (x13 : Vec Ideal S1x128 .f32) (x14 : Vec Ideal S1x128 .f32) (x15 : Vec Ideal S128x64 .f32) (x16 : Vec Ideal S1x64 .f32) (x17 : Vec Ideal S64x768 .f32) (x18 : Vec Ideal S1x768 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18).1 = [piece19 (kernelRun0_A.sl.v831 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 x0 x1 x2 x3 x4 x5 x6 x7 x8 x9 x10 x11 x12 x13 x14 x15 x16 x17 x18) 7, piece19 (kernelRun0_A.sl.v831 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 x0 x1 x2 x3 x4 x5 x6 x7 x8 x9 x10 x11 x12 x13 x14 x15 x16 x17 x18) 6, piece19 (kernelRun0_A.sl.v831 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 x0 x1 x2 x3 x4 x5 x6 x7 x8 x9 x10 x11 x12 x13 x14 x15 x16 x17 x18) 5, piece19 (kernelRun0_A.sl.v831 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 x0 x1 x2 x3 x4 x5 x6 x7 x8 x9 x10 x11 x12 x13 x14 x15 x16 x17 x18) 4, piece19 (kernelRun0_A.sl.v831 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 x0 x1 x2 x3 x4 x5 x6 x7 x8 x9 x10 x11 x12 x13 x14 x15 x16 x17 x18) 3, piece19 (kernelRun0_A.sl.v831 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 x0 x1 x2 x3 x4 x5 x6 x7 x8 x9 x10 x11 x12 x13 x14 x15 x16 x17 x18) 2, piece19 (kernelRun0_A.sl.v831 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 x0 x1 x2 x3 x4 x5 x6 x7 x8 x9 x10 x11 x12 x13 x14 x15 x16 x17 x18) 1, piece19 (kernelRun0_A.sl.v831 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 x0 x1 x2 x3 x4 x5 x6 x7 x8 x9 x10 x11 x12 x13 x14 x15 x16 x17 x18) 0] := rfl

/-- What the run leaves in output 19's window. -/
theorem out19_apply (c : Dev nD) (i : grid0.Coords) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x64 .f32) (harg16 : arg16.IsWhole) (arg17 : Memref sig .tc .vmem S1x64 .f32) (harg17 : arg17.IsWhole) (arg18 : Memref sig .tc .vmem S64x768 .f32) (harg18 : arg18.IsWhole) (arg19 : Memref sig .tc .vmem S1x768 .f32) (harg19 : arg19.IsWhole) (arg20 : Memref sig .tc .vmem S8x10x768 .f32) (harg20 : arg20.IsWhole) (arg21 : Memref sig .tc .vmem S8x10x64 .f32) (harg21 : arg21.IsWhole) (arg22 : Memref sig .tc .vmem S8x197x128 .bf16) (harg22 : arg22.IsWhole) (x0 : Vec Ideal S8x197x768 .f32) (x1 : Vec Ideal S768x128 .bf16) (x2 : Vec Ideal S1x128 .f32) (x3 : Vec Ideal S1x128 .f32) (x4 : Vec Ideal S128x64 .f32) (x5 : Vec Ideal S64x128 .f32) (x6 : Vec Ideal S1x128 .f32) (x7 : Vec Ideal S1x128 .f32) (x8 : Vec Ideal S192x128 .f32) (x9 : Vec Ideal S192x64 .f32) (x10 : Vec Ideal S1x192 .f32) (x11 : Vec Ideal S1x192 .f32) (x12 : Vec Ideal S64x128 .f32) (x13 : Vec Ideal S1x128 .f32) (x14 : Vec Ideal S1x128 .f32) (x15 : Vec Ideal S128x64 .f32) (x16 : Vec Ideal S1x64 .f32) (x17 : Vec Ideal S64x768 .f32) (x18 : Vec Ideal S1x768 .f32) (b : Fin 8) (t : Fin 10) (j : Fin 768) :
    out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18 (ix3 b t j) = (kernelRun0_A.sl.v831 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 x0 x1 x2 x3 x4 x5 x6 x7 x8 x9 x10 x11 x12 x13 x14 x15 x16 x17 x18) (ix2 (rowIx b (up t)) j) := by
  unfold out0_A_19
  refine View.read_writes_apply_of_pieces VO0_19 _ (fun y : S8x10x768.Idx => (kernelRun0_A.sl.v831 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg22 x0 x1 x2 x3 x4 x5 x6 x7 x8 x9 x10 x11 x12 x13 x14 x15 x16 x17 x18) (ix2 (rowIx (y 0) (up (y 1))) (y 2))) _ ?_ _
    (cover0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18 _)
  rw [pieces19]
  intro p hp x
  simp only [List.mem_cons, List.not_mem_nil, or_false] at hp
  rcases hp with rfl | rfl | rfl | rfl | rfl | rfl | rfl | rfl <;> exact piece19_apply _ _ x

/-- One matrix of eight lies in output 20's window. -/
theorem fits20 (b : Fin 8) : ∀ a, (![b.val, 0, 0] : Fin 3 → Nat) a + S1x10x64.size a ≤ S8x10x64.size a := by
  revert b; decide

/-- The piece of output 20 that batch element `b` writes. -/
def piece20 (f : FVec Ideal S128x64 .f32) (b : Fin 8) : View.Piece (Elt Ideal) S8x10x64 .f32 :=
  ⟨Rect.unit (s := S8x10x64) ![b.val, 0, 0] S1x10x64.size (fits20 b),
    shapeCast S1x10x64 (extractStridedSlice S10x64 ![16 * b.val, 0] f (slices_ten' b)) shapeCasts_S10x64_S1x10x64⟩

/-- A piece's value at an index. -/
theorem piece20_apply (f : FVec Ideal S128x64 .f32) (b : Fin 8) (x : (piece20 f b).1.shape.Idx) :
    (piece20 f b).2 x = (fun y : S8x10x64.Idx => f (ix2 (rowIx (y 0) (up (y 1))) (y 2))) ((piece20 f b).1.emb x) := by
  have hx : x = ix3 (n0 := 1) (n1 := 10) (n2 := 64) 0 (x 1) (x 2) := by
    refine (ValueIdx.eq_ix3 (n0 := 1) (n1 := 10) (n2 := 64) x).trans ?_
    congr 1
    exact Subsingleton.elim (α := Fin 1) _ _
  have h0 : (piece20 f b).1.emb x 0 = b := Fin.ext (by
    have h : (x 0).val = 0 := Nat.lt_one_iff.mp (x 0).isLt
    show b.val + 1 * (x 0).val = b.val
    omega)
  have h1 : (piece20 f b).1.emb x 1 = x 1 := Fin.ext (by show 0 + 1 * (x 1).val = (x 1).val; omega)
  have h2 : (piece20 f b).1.emb x 2 = x 2 := Fin.ext (by show 0 + 1 * (x 2).val = (x 2).val; omega)
  show _ = f (ix2 (rowIx ((piece20 f b).1.emb x 0) (up ((piece20 f b).1.emb x 1))) ((piece20 f b).1.emb x 2))
  rw [h0, h1, h2]
  show shapeCast S1x10x64 (extractStridedSlice S10x64 ![16 * b.val, 0] f (slices_ten' b)) shapeCasts_S10x64_S1x10x64 x = _
  rw [hx]
  pointwise []
  rfl

/-- Output 20's pieces. -/
theorem pieces20 (c : Dev nD) (i : grid0.Coords) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x64 .f32) (harg16 : arg16.IsWhole) (arg17 : Memref sig .tc .vmem S1x64 .f32) (harg17 : arg17.IsWhole) (arg18 : Memref sig .tc .vmem S64x768 .f32) (harg18 : arg18.IsWhole) (arg19 : Memref sig .tc .vmem S1x768 .f32) (harg19 : arg19.IsWhole) (arg20 : Memref sig .tc .vmem S8x10x768 .f32) (harg20 : arg20.IsWhole) (arg21 : Memref sig .tc .vmem S8x10x64 .f32) (harg21 : arg21.IsWhole) (arg22 : Memref sig .tc .vmem S8x197x128 .bf16) (harg22 : arg22.IsWhole) (x0 : Vec Ideal S8x197x768 .f32) (x1 : Vec Ideal S768x128 .bf16) (x2 : Vec Ideal S1x128 .f32) (x3 : Vec Ideal S1x128 .f32) (x4 : Vec Ideal S128x64 .f32) (x5 : Vec Ideal S64x128 .f32) (x6 : Vec Ideal S1x128 .f32) (x7 : Vec Ideal S1x128 .f32) (x8 : Vec Ideal S192x128 .f32) (x9 : Vec Ideal S192x64 .f32) (x10 : Vec Ideal S1x192 .f32) (x11 : Vec Ideal S1x192 .f32) (x12 : Vec Ideal S64x128 .f32) (x13 : Vec Ideal S1x128 .f32) (x14 : Vec Ideal S1x128 .f32) (x15 : Vec Ideal S128x64 .f32) (x16 : Vec Ideal S1x64 .f32) (x17 : Vec Ideal S64x768 .f32) (x18 : Vec Ideal S1x768 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18).2.1 = [piece20 (kernelRun0_A.sl.v826 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) 7, piece20 (kernelRun0_A.sl.v826 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) 6, piece20 (kernelRun0_A.sl.v826 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) 5, piece20 (kernelRun0_A.sl.v826 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) 4, piece20 (kernelRun0_A.sl.v826 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) 3, piece20 (kernelRun0_A.sl.v826 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) 2, piece20 (kernelRun0_A.sl.v826 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) 1, piece20 (kernelRun0_A.sl.v826 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) 0] := rfl

/-- What the run leaves in output 20's window. -/
theorem out20_apply (c : Dev nD) (i : grid0.Coords) (arg1 : Memref sig .tc .vmem S8x197x768 .f32) (harg1 : arg1.IsWhole) (arg2 : Memref sig .tc .vmem S768x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x64 .f32) (harg10 : arg10.IsWhole) (arg11 : Memref sig .tc .vmem S1x192 .f32) (harg11 : arg11.IsWhole) (arg12 : Memref sig .tc .vmem S1x192 .f32) (harg12 : arg12.IsWhole) (arg13 : Memref sig .tc .vmem S64x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x64 .f32) (harg16 : arg16.IsWhole) (arg17 : Memref sig .tc .vmem S1x64 .f32) (harg17 : arg17.IsWhole) (arg18 : Memref sig .tc .vmem S64x768 .f32) (harg18 : arg18.IsWhole) (arg19 : Memref sig .tc .vmem S1x768 .f32) (harg19 : arg19.IsWhole) (arg20 : Memref sig .tc .vmem S8x10x768 .f32) (harg20 : arg20.IsWhole) (arg21 : Memref sig .tc .vmem S8x10x64 .f32) (harg21 : arg21.IsWhole) (arg22 : Memref sig .tc .vmem S8x197x128 .bf16) (harg22 : arg22.IsWhole) (x0 : Vec Ideal S8x197x768 .f32) (x1 : Vec Ideal S768x128 .bf16) (x2 : Vec Ideal S1x128 .f32) (x3 : Vec Ideal S1x128 .f32) (x4 : Vec Ideal S128x64 .f32) (x5 : Vec Ideal S64x128 .f32) (x6 : Vec Ideal S1x128 .f32) (x7 : Vec Ideal S1x128 .f32) (x8 : Vec Ideal S192x128 .f32) (x9 : Vec Ideal S192x64 .f32) (x10 : Vec Ideal S1x192 .f32) (x11 : Vec Ideal S1x192 .f32) (x12 : Vec Ideal S64x128 .f32) (x13 : Vec Ideal S1x128 .f32) (x14 : Vec Ideal S1x128 .f32) (x15 : Vec Ideal S128x64 .f32) (x16 : Vec Ideal S1x64 .f32) (x17 : Vec Ideal S64x768 .f32) (x18 : Vec Ideal S1x768 .f32) (b : Fin 8) (t : Fin 10) (j : Fin 64) :
    out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18 (ix3 b t j) = (kernelRun0_A.sl.v826 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) (ix2 (rowIx b (up t)) j) := by
  unfold out0_A_20
  refine View.read_writes_apply_of_pieces VO0_20 _ (fun y : S8x10x64.Idx => (kernelRun0_A.sl.v826 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg22 x0 x1 x2 x3 x4 x5 x6 x7 x8 x9 x10 x11 x12 x13 x14 x15 x16) (ix2 (rowIx (y 0) (up (y 1))) (y 2))) _ ?_ _
    (cover0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18 _)
  rw [pieces20]
  intro p hp x
  simp only [List.mem_cons, List.not_mem_nil, or_false] at hp
  rcases hp with rfl | rfl | rfl | rfl | rfl | rfl | rfl | rfl <;> exact piece20_apply _ _ x

end Cert.KernelIdeal.KVal

end
-- ==== Proof.KHost.lean ====
/- What the host leaves in the kernel's operands before the call, of arguments the model admits: the model's parameters, regrouped. -/
module

public import proofs.«01_k».proof.Proof.KRead
public import Idealize.ShloMosaic.Lib.StableHlo.ReadAt
public import Idealize.ShloMosaic.Lib.Routing.OpsSet
public import Idealize.ShloMosaic.Lib.Routing.OpsPair

@[expose] public section

noncomputable section

namespace Cert.KernelIdeal.KVal

open Cert.KernelIdeal Cert.KernelIdeal.Gen Idealize.ShloMosaic Cert.Model

/-- The kernel's arguments hold these parameters. -/
structure Reals (m : (ℓ : Loc nD τ sig) → Buf (Elt Ideal) ℓ) (c : Dev nD) (P : Par) (X : Fin 256 → Fin 197 → Fin 768 → ℝ) : Prop where
  /-- argument 0 -/
  hx : ∀ i n j, (m (c, Proc.devRef .tc main_arg0) : FVec Ideal S256x197x768 .f32) (ix3 i n j) = ((X i n j : ℝ) : EReal)
  /-- argument 1 -/
  hgi : ∀ j, (m (c, Proc.devRef .tc main_arg1) : FVec Ideal S768 .f32) (ix1 j) = ((P.gi j : ℝ) : EReal)
  /-- argument 2 -/
  hbi : ∀ j, (m (c, Proc.devRef .tc main_arg2) : FVec Ideal S768 .f32) (ix1 j) = P.bi j
  /-- argument 3 -/
  hs0 : ∀ k j, (m (c, Proc.devRef .tc main_arg3) : FVec Ideal S10x64 .f32) (ix2 k j) = ((P.s0 k j : ℝ) : EReal)
  /-- argument 4 -/
  hgs : ∀ j, (m (c, Proc.devRef .tc main_arg4) : FVec Ideal S64 .f32) (ix1 j) = ((P.gs j : ℝ) : EReal)
  /-- argument 5 -/
  hbs : ∀ j, (m (c, Proc.devRef .tc main_arg5) : FVec Ideal S64 .f32) (ix1 j) = P.bs j
  /-- argument 6 -/
  hWq : ∀ k j, (m (c, Proc.devRef .tc main_arg6) : FVec Ideal S64x64 .f32) (ix2 k j) = ((P.Wq k j : ℝ) : EReal)
  /-- argument 7 -/
  hWk : ∀ k j, (m (c, Proc.devRef .tc main_arg7) : FVec Ideal S768x64 .f32) (ix2 k j) = ((P.Wk k j : ℝ) : EReal)
  /-- argument 8 -/
  hWv : ∀ k j, (m (c, Proc.devRef .tc main_arg8) : FVec Ideal S768x64 .f32) (ix2 k j) = ((P.Wv k j : ℝ) : EReal)
  /-- argument 9 -/
  hWih : ∀ k j, (m (c, Proc.devRef .tc main_arg9) : FVec Ideal S192x64 .f32) (ix2 k j) = P.Wih k j
  /-- argument 10 -/
  hWhh : ∀ k j, (m (c, Proc.devRef .tc main_arg10) : FVec Ideal S192x64 .f32) (ix2 k j) = P.Whh k j
  /-- argument 11 -/
  hbih : ∀ j, (m (c, Proc.devRef .tc main_arg11) : FVec Ideal S192 .f32) (ix1 j) = P.bih j
  /-- argument 12 -/
  hbhh : ∀ j, (m (c, Proc.devRef .tc main_arg12) : FVec Ideal S192 .f32) (ix1 j) = P.bhh j
  /-- argument 13 -/
  hgm : ∀ j, (m (c, Proc.devRef .tc main_arg13) : FVec Ideal S64 .f32) (ix1 j) = ((P.gm j : ℝ) : EReal)
  /-- argument 14 -/
  hbm : ∀ j, (m (c, Proc.devRef .tc main_arg14) : FVec Ideal S64 .f32) (ix1 j) = ((P.bm j : ℝ) : EReal)
  /-- argument 15 -/
  hW1 : ∀ k j, (m (c, Proc.devRef .tc main_arg15) : FVec Ideal S64x128 .f32) (ix2 k j) = ((P.W1 k j : ℝ) : EReal)
  /-- argument 16 -/
  hb1 : ∀ j, (m (c, Proc.devRef .tc main_arg16) : FVec Ideal S128 .f32) (ix1 j) = ((P.b1 j : ℝ) : EReal)
  /-- argument 17 -/
  hW2 : ∀ k j, (m (c, Proc.devRef .tc main_arg17) : FVec Ideal S128x64 .f32) (ix2 k j) = ((P.W2 k j : ℝ) : EReal)
  /-- argument 18 -/
  hb2 : ∀ j, (m (c, Proc.devRef .tc main_arg18) : FVec Ideal S64 .f32) (ix1 j) = ((P.b2 j : ℝ) : EReal)

variable {m : (ℓ : Loc nD τ sig) → Buf (Elt Ideal) ℓ} {c : Dev nD} {P : Par} {X : Fin 256 → Fin 197 → Fin 768 → ℝ}

/-- The update at row `k`, column `l` lands at row `k`, column `l`: the start index is 0. -/
theorem lands_slab (idx : IVec S1 32) (hidx : idx (ix1 0) = 0) (k : Fin 10) (l : Fin 64) (r : Fin 16) (q : Fin 64) :
    scatter_S16x64_S1_S10x64_01_n_0_0.resultIdx? (ix2 k l) idx = some (ix2 r q) ↔ k.val = r.val ∧ l.val = q.val := by
  have h0 : scatter_S16x64_S1_S10x64_01_n_0_0.start (ix2 k l) idx 0 = 0 := by
    unfold ScatterDims.start
    rw [dif_pos (by decide)]
    have e : ∀ y : S1.Idx, idx y = 0 := fun y => by
      have hy : y = ix1 0 := funext fun a => by
        have : a = 0 := Subsingleton.elim (α := Fin 1) _ _
        subst this
        exact Subsingleton.elim (α := Fin 1) _ _
      rw [hy, hidx]
    rw [e]; rfl
  have h1 : scatter_S16x64_S1_S10x64_01_n_0_0.start (ix2 k l) idx 1 = 0 := by
    unfold ScatterDims.start
    rw [dif_neg (by decide)]
  have w0 : scatter_S16x64_S1_S10x64_01_n_0_0.window (ix2 k l) 0 = k.val := by
    unfold ScatterDims.window
    rw [dif_pos (by decide)]
    rfl
  have w1 : scatter_S16x64_S1_S10x64_01_n_0_0.window (ix2 k l) 1 = l.val := by
    unfold ScatterDims.window
    rw [dif_pos (by decide)]
    rfl
  have h := Routing.resultIdx?_ix2 scatter_S16x64_S1_S10x64_01_n_0_0 (ix2 k l) idx r q
  rw [h0, h1, w0, w1] at h
  exact h.trans ⟨fun h => ⟨by omega, by omega⟩, fun h => ⟨by omega, by omega⟩⟩

/-- Setting the first ten of sixteen rows: a row below ten is the update's. -/
theorem slab_hit (x0 : FVec Ideal S16x64 .f32) (idx : IVec S1 32) (hidx : idx (ix1 0) = 0) (upd : FVec Ideal S10x64 .f32) (t : Fin 16) (h : t.val < 10) (j : Fin 64) :
    Host.scatter scatter_S16x64_S1_S10x64_01_n_0_0 (fun _ b => b) x0 idx upd (ix2 t j) = upd (ix2 ⟨t.val, h⟩ j) := by
  refine Routing.scatter_set_hit _ x0 idx upd (ix2 t j) _ (fun k hk => ?_) (ix2 ⟨t.val, h⟩ j) ((lands_slab idx hidx _ _ _ _).2 ⟨rfl, rfl⟩)
  rw [ValueIdx.eq_ix2 (n0 := 10) (n1 := 64) k] at hk ⊢
  have e := (lands_slab idx hidx _ _ _ _).1 hk
  exact congrArg upd (congrArg₂ ix2 (Fin.ext e.1) (Fin.ext e.2))

/-- … and a later row is the operand's. -/
theorem slab_miss (x0 : FVec Ideal S16x64 .f32) (idx : IVec S1 32) (hidx : idx (ix1 0) = 0) (upd : FVec Ideal S10x64 .f32) (t : Fin 16) (h : ¬ t.val < 10) (j : Fin 64) :
    Host.scatter scatter_S16x64_S1_S10x64_01_n_0_0 (fun _ b => b) x0 idx upd (ix2 t j) = x0 (ix2 t j) := by
  refine Routing.scatter_set_miss _ x0 idx upd (ix2 t j) fun k hk => ?_
  rw [ValueIdx.eq_ix2 (n0 := 10) (n1 := 64) k] at hk
  have e := (lands_slab idx hidx _ _ _ _).1 hk
  have := (show Fin 10 from k 0).isLt
  have e1 := e.1
  exact h (e1 ▸ this)

/-- The slots at first, with the six padding rows zero. -/
def pad16 (P : Par) (t : Fin 16) (d : Fin 64) : ℝ := if h : t.val < 10 then P.s0 ⟨t.val, h⟩ d else 0

/-- On the ten rows the padded slots are the slots. -/
theorem pad16_up (t : Fin 10) (d : Fin 64) : pad16 P (up t) d = P.s0 t d := by
  unfold pad16
  rw [dif_pos (show (up t).val < 10 from t.isLt)]
  rfl

/-- Operand 1: the scaled key and value weights side by side. -/
theorem w1 (H : Reals m c P X) (k : Fin 768) (j : Fin 128) : (V m c main_v4 : FVec Ideal S768x128 .bf16) (ix2 k j) = ((P.gi k * wkvR P k j : ℝ) : EReal) := by
  unfold V
  after_reads_at
  unfold wkvR
  rw [StableHlo.upto_zero]
  split <;> simp only [H.hgi, H.hWk, H.hWv, ← EReal.coe_mul]
/-- Operand 2: their columns against the scale. -/
theorem w2 (H : Reals m c P X) (j : Fin 128) : (V m c main_v6 : FVec Ideal S1x128 .f32) (ix2 0 j) = ((∑ k, P.gi k * wkvR P k j : ℝ) : EReal) := by
  unfold V
  after_reads_at
  refine (Finset.sum_congr rfl fun k _ => ?_).trans (coe_sum _ _).symm
  unfold wkvR
  rw [StableHlo.upto_zero]
  split <;> simp only [H.hgi, H.hWk, H.hWv, ← EReal.coe_mul]
/-- Operand 3: their columns against the shift. -/
theorem w3 (H : Reals m c P X) (j : Fin 128) : (V m c main_v8 : FVec Ideal S1x128 .f32) (ix2 0 j) = ∑ k, P.bi k * (wkvR P k j : EReal) := by
  unfold V
  after_reads_at
  refine Finset.sum_congr rfl fun k _ => ?_
  unfold wkvR
  rw [StableHlo.upto_zero]
  split <;> simp only [H.hbi, H.hWk, H.hWv]
/-- Operand 4: eight copies of the padded slots. -/
theorem w4 (H : Reals m c P X) (b : Fin 8) (t : Fin 16) (j : Fin 64) : (V m c main_v38 : FVec Ideal S128x64 .f32) (ix2 (rowIx b t) j) = ((pad16 P t j : ℝ) : EReal) := by
  unfold V rowIx
  after_reads_at
  unfold pad16
  split
  next h => exact (slab_hit _ _ rfl _ t h j).trans (H.hs0 _ _)
  next h =>
    refine (slab_miss _ _ rfl _ t h j).trans ?_
    exact (Ideal.ofBits_zero .f32).trans EReal.coe_zero.symm
/-- Operand 5: the scaled query weights, padded by zeros. -/
theorem w5 (H : Reals m c P X) (k : Fin 64) (j : Fin 128) : (V m c main_v15 : FVec Ideal S64x128 .f32) (ix2 k j) = ((P.gs k * wqR P k j : ℝ) : EReal) := by
  unfold V
  after_reads_at
  unfold wqR
  split <;> simp only [H.hgs, H.hWq, bits_eighth, ← EReal.coe_mul, mul_zero, EReal.coe_zero]
/-- Operand 6: the query weights' columns against the scale. -/
theorem w6 (H : Reals m c P X) (j : Fin 128) : (V m c main_v19 : FVec Ideal S1x128 .f32) (ix2 0 j) = ((∑ k, P.gs k * wqR P k j : ℝ) : EReal) := by
  unfold V
  after_reads_at
  unfold wqR
  split
  · refine (Finset.sum_congr rfl fun k _ => ?_).trans (coe_sum _ _).symm
    simp only [H.hgs, H.hWq, bits_eighth, ← EReal.coe_mul]
  · simp only [mul_zero, Finset.sum_const_zero, EReal.coe_zero]
/-- Operand 7: the query weights' columns against the shift. -/
theorem w7 (H : Reals m c P X) (j : Fin 128) : (V m c main_v22 : FVec Ideal S1x128 .f32) (ix2 0 j) = ∑ k, P.bs k * (wqR P k j : EReal) := by
  unfold V
  after_reads_at
  unfold wqR
  split
  · simp only [H.hbs, H.hWq, bits_eighth, ← EReal.coe_mul]
  · simp only [EReal.coe_zero, mul_zero, Finset.sum_const_zero]
/-- Operand 8: the input weights, padded by zeros. -/
theorem w8 (H : Reals m c P X) (k : Fin 192) (j : Fin 128) : (V m c main_v24 : FVec Ideal S192x128 .f32) (ix2 k j) = wihR P k j := by
  unfold V
  after_reads_at
  unfold wihR
  split <;> simp only [H.hWih]
/-- Operand 9: the state weights. -/
theorem w9 (H : Reals m c P X) (k : Fin 192) (j : Fin 64) : (V m c main_arg10 : FVec Ideal S192x64 .f32) (ix2 k j) = P.Whh k j := by
  rw [V_main_arg10]
  exact H.hWhh k j
/-- Operand 10: the input shift. -/
theorem w10 (H : Reals m c P X) (j : Fin 192) : (V m c main_v39 : FVec Ideal S1x192 .f32) (ix2 0 j) = P.bih j := by
  unfold V
  after_reads_at
  exact H.hbih j
/-- Operand 11: the state shift. -/
theorem w11 (H : Reals m c P X) (j : Fin 192) : (V m c main_v40 : FVec Ideal S1x192 .f32) (ix2 0 j) = P.bhh j := by
  unfold V
  after_reads_at
  exact H.hbhh j
/-- Operand 12: the first layer, scaled. -/
theorem w12 (H : Reals m c P X) (k : Fin 64) (j : Fin 128) : (V m c main_v27 : FVec Ideal S64x128 .f32) (ix2 k j) = ((P.gm k * P.W1 k j : ℝ) : EReal) := by
  unfold V
  after_reads_at
  simp only [H.hgm, H.hW1, ← EReal.coe_mul]
/-- Operand 13: its columns against the scale. -/
theorem w13 (H : Reals m c P X) (j : Fin 128) : (V m c main_v29 : FVec Ideal S1x128 .f32) (ix2 0 j) = ((∑ k, P.gm k * P.W1 k j : ℝ) : EReal) := by
  unfold V
  after_reads_at
  simp only [H.hgm, H.hW1, ← EReal.coe_mul, coe_sum]
/-- Operand 14: its shift. -/
theorem w14 (H : Reals m c P X) (j : Fin 128) : (V m c main_v32 : FVec Ideal S1x128 .f32) (ix2 0 j) = (((∑ k, P.bm k * P.W1 k j) + P.b1 j : ℝ) : EReal) := by
  unfold V
  after_reads_at
  simp only [H.hbm, H.hW1, H.hb1, ← EReal.coe_mul, ← coe_sum, ← EReal.coe_add]
/-- Operand 15: the second layer. -/
theorem w15 (H : Reals m c P X) (k : Fin 128) (j : Fin 64) : (V m c main_arg17 : FVec Ideal S128x64 .f32) (ix2 k j) = ((P.W2 k j : ℝ) : EReal) := by
  rw [V_main_arg17]
  exact H.hW2 k j
/-- Operand 16: its shift. -/
theorem w16 (H : Reals m c P X) (j : Fin 64) : (V m c main_v41 : FVec Ideal S1x64 .f32) (ix2 0 j) = ((P.b2 j : ℝ) : EReal) := by
  unfold V
  after_reads_at
  exact H.hb2 j
/-- Operand 18: the last shift, as a row. -/
theorem w18 (j : Fin 768) : (V m c main_v42 : FVec Ideal S1x768 .f32) (ix2 0 j) = (m (c, Proc.devRef .tc main_arg20) : FVec Ideal S768 .f32) (ix1 j) := by
  unfold V
  after_reads_at

end Cert.KernelIdeal.KVal

end
-- ==== Proof.Finite.lean ====
/- What the precondition says: every argument it names holds reals. The others hold what they hold. -/
module

public import proofs.«01_k».proof.Defs
public import proofs.«01_k».proof.Proof.Gen.Pre_finite
public import proofs.«01_k».proof.Proof.KHost

@[expose] public section

noncomputable section

namespace Cert.Proof

open Idealize.ShloMosaic Cert.Model Cert.KernelIdeal

/-- An array below infinity in absolute value holds reals. -/
theorem real_of_finite {S : Shape} (x : FVec Ideal S .f32) {d : Fin S_.rank → Fin S.rank} (hb : S_.BroadcastsInDim S d)
    (h : cmpf (F := Ideal) .olt (Host.absf x) (broadcastInDim S d hb (constant (F := Ideal) S_ .f32 0x7F800000#32)) = fun _ => 1#1) (i : S.Idx) :
    x i = ((EReal.toReal (x i) : ℝ) : EReal) := by
  have e := congrFun h i
  have e' : Ideal.cmp .olt (max (x i) (-(x i))) (Ideal.ofBits .f32 0x7F800000#32) = 1#1 := e
  rw [bits_top] at e'
  refine (EReal.coe_toReal (fun h => ?_) fun h => ?_).symm <;> rw [h] at e' <;> simp [Ideal.cmp] at e'

/-- The parameters a memory's arguments hold. -/
def parOf (m : (ℓ : Loc nD τ sig) → Buf (Elt Ideal) ℓ) (c : Dev nD) : Par where
  gi j := EReal.toReal ((m (c, Proc.devRef .tc main_arg1) : FVec Ideal S768 .f32) (ix1 j))
  bi j := (m (c, Proc.devRef .tc main_arg2) : FVec Ideal S768 .f32) (ix1 j)
  s0 k j := EReal.toReal ((m (c, Proc.devRef .tc main_arg3) : FVec Ideal S10x64 .f32) (ix2 k j))
  gs j := EReal.toReal ((m (c, Proc.devRef .tc main_arg4) : FVec Ideal S64 .f32) (ix1 j))
  bs j := (m (c, Proc.devRef .tc main_arg5) : FVec Ideal S64 .f32) (ix1 j)
  Wq k j := EReal.toReal ((m (c, Proc.devRef .tc main_arg6) : FVec Ideal S64x64 .f32) (ix2 k j))
  Wk k j := EReal.toReal ((m (c, Proc.devRef .tc main_arg7) : FVec Ideal S768x64 .f32) (ix2 k j))
  Wv k j := EReal.toReal ((m (c, Proc.devRef .tc main_arg8) : FVec Ideal S768x64 .f32) (ix2 k j))
  Wih k j := (m (c, Proc.devRef .tc main_arg9) : FVec Ideal S192x64 .f32) (ix2 k j)
  Whh k j := (m (c, Proc.devRef .tc main_arg10) : FVec Ideal S192x64 .f32) (ix2 k j)
  bih j := (m (c, Proc.devRef .tc main_arg11) : FVec Ideal S192 .f32) (ix1 j)
  bhh j := (m (c, Proc.devRef .tc main_arg12) : FVec Ideal S192 .f32) (ix1 j)
  gm j := EReal.toReal ((m (c, Proc.devRef .tc main_arg13) : FVec Ideal S64 .f32) (ix1 j))
  bm j := EReal.toReal ((m (c, Proc.devRef .tc main_arg14) : FVec Ideal S64 .f32) (ix1 j))
  W1 k j := EReal.toReal ((m (c, Proc.devRef .tc main_arg15) : FVec Ideal S64x128 .f32) (ix2 k j))
  b1 j := EReal.toReal ((m (c, Proc.devRef .tc main_arg16) : FVec Ideal S128 .f32) (ix1 j))
  W2 k j := EReal.toReal ((m (c, Proc.devRef .tc main_arg17) : FVec Ideal S128x64 .f32) (ix2 k j))
  b2 j := EReal.toReal ((m (c, Proc.devRef .tc main_arg18) : FVec Ideal S64 .f32) (ix1 j))

/-- The features a memory holds. -/
def featOf (m : (ℓ : Loc nD τ sig) → Buf (Elt Ideal) ℓ) (c : Dev nD) (i : Fin 256) (n : Fin 197) (j : Fin 768) : ℝ :=
  EReal.toReal ((m (c, Proc.devRef .tc main_arg0) : FVec Ideal S256x197x768 .f32) (ix3 i n j))

/-- Under the precondition the arguments are those parameters. -/
theorem reals_of_pre (m : (ℓ : Loc nD τ sig) → Buf (Elt Ideal) ℓ) (h : Cert.Pre_KernelIdeal_finite (hPre_finite := Cert.Pre_finite.Gen.facts) m) (c : Dev nD) :
    KVal.Reals m c (parOf m c) (featOf m c) := by
  obtain ⟨h0, h1, h3, h4, h6, h7, h8, h13, h14, h15, h16, h17, h18⟩ := h c
  exact {
    hx := fun i n j => real_of_finite (m (c, Proc.devRef .tc main_arg0) : FVec Ideal S256x197x768 .f32) _ h0 (ix3 i n j)
    hgi := fun j => real_of_finite (m (c, Proc.devRef .tc main_arg1) : FVec Ideal S768 .f32) _ h1 (ix1 j)
    hbi := fun _ => rfl
    hs0 := fun k j => real_of_finite (m (c, Proc.devRef .tc main_arg3) : FVec Ideal S10x64 .f32) _ h3 (ix2 k j)
    hgs := fun j => real_of_finite (m (c, Proc.devRef .tc main_arg4) : FVec Ideal S64 .f32) _ h4 (ix1 j)
    hbs := fun _ => rfl
    hWq := fun k j => real_of_finite (m (c, Proc.devRef .tc main_arg6) : FVec Ideal S64x64 .f32) _ h6 (ix2 k j)
    hWk := fun k j => real_of_finite (m (c, Proc.devRef .tc main_arg7) : FVec Ideal S768x64 .f32) _ h7 (ix2 k j)
    hWv := fun k j => real_of_finite (m (c, Proc.devRef .tc main_arg8) : FVec Ideal S768x64 .f32) _ h8 (ix2 k j)
    hWih := fun _ _ => rfl
    hWhh := fun _ _ => rfl
    hbih := fun _ => rfl
    hbhh := fun _ => rfl
    hgm := fun j => real_of_finite (m (c, Proc.devRef .tc main_arg13) : FVec Ideal S64 .f32) _ h13 (ix1 j)
    hbm := fun j => real_of_finite (m (c, Proc.devRef .tc main_arg14) : FVec Ideal S64 .f32) _ h14 (ix1 j)
    hW1 := fun k j => real_of_finite (m (c, Proc.devRef .tc main_arg15) : FVec Ideal S64x128 .f32) _ h15 (ix2 k j)
    hb1 := fun j => real_of_finite (m (c, Proc.devRef .tc main_arg16) : FVec Ideal S128 .f32) _ h16 (ix1 j)
    hW2 := fun k j => real_of_finite (m (c, Proc.devRef .tc main_arg17) : FVec Ideal S128x64 .f32) _ h17 (ix2 k j)
    hb2 := fun j => real_of_finite (m (c, Proc.devRef .tc main_arg18) : FVec Ideal S64 .f32) _ h18 (ix1 j) }

end Cert.Proof

end
-- ==== Proof.KBlk.lean ====
/- The blocks of the kernel's windows, at coordinates. -/
module

public import proofs.«01_k».proof.Proof.KHost
public import proofs.«01_k».proof.Proof.KernelIdealFrame.Value
public import Idealize.ShloMosaic.Lib.Pipeline.ValueKit.Geometry

@[expose] public section

noncomputable section

namespace Cert.KernelIdeal.KVal

open Cert.KernelIdeal Cert.KernelIdeal.Gen Idealize.ShloMosaic Cert.Model

variable (m : (ℓ : Loc nD τ sig) → Buf (Elt Ideal) ℓ) (c : Dev nD)

/-- The batch element at place `b` of point `t`'s eight. -/
def batch (t : Fin cfg0.N) (b : Fin 8) : Fin 256 :=
  ⟨t.val * 8 + b.val, by have := t.isLt; have := b.isLt; have : cfg0.N = 32 := rfl; omega⟩

/-- Window 0 moves with the grid point. -/
theorem index0 : ∀ t : Fin cfg0.N, win0_0.index t = ![t.val, 0, 0] :=
  (by decide +kernel : ∀ t : Fin grid0.N, win0_0.index t = ![t.val, 0, 0])

/-- Window 19 moves with the grid point. -/
theorem index19 : ∀ t : Fin cfg0.N, win0_19.index t = ![t.val, 0, 0] :=
  (by decide +kernel : ∀ t : Fin grid0.N, win0_19.index t = ![t.val, 0, 0])

/-- Window 20 moves with the grid point. -/
theorem index20 : ∀ t : Fin cfg0.N, win0_20.index t = ![t.val, 0, 0] :=
  (by decide +kernel : ∀ t : Fin grid0.N, win0_20.index t = ![t.val, 0, 0])

/-- Window 0's block is the point's eight feature matrices. -/
theorem blk0 (t : Fin cfg0.N) (b : Fin 8) (n : Fin 197) (k : Fin 768) :
    (iblk m c 0 t : FVec Ideal S8x197x768 .f32) (ix3 b n k) = (V m c main_arg0 : FVec Ideal S256x197x768 .f32) (ix3 (batch t b) n k) := by
  blk_simp [iblk]
  refine congrArg (V m c main_arg0) ?_
  blk_ext [index0, batch]

/-- Window 1 stays in place. -/
theorem index1 : ∀ t : Fin cfg0.N, win0_1.index t = ![0, 0] :=
  (by decide +kernel : ∀ t : Fin grid0.N, win0_1.index t = ![0, 0])

/-- Window 1's block is its whole array. -/
theorem blk1 (t : Fin cfg0.N) : (iblk m c 1 t : FVec Ideal S768x128 .bf16) = V m c main_v4 := by
  funext x
  blk_simp [iblk]
  refine congrArg (V m c main_v4) ?_
  blk_ext [index1]

/-- Window 2 stays in place. -/
theorem index2 : ∀ t : Fin cfg0.N, win0_2.index t = ![0, 0] :=
  (by decide +kernel : ∀ t : Fin grid0.N, win0_2.index t = ![0, 0])

/-- Window 2's block is its whole array. -/
theorem blk2 (t : Fin cfg0.N) : (iblk m c 2 t : FVec Ideal S1x128 .f32) = V m c main_v6 := by
  funext x
  blk_simp [iblk]
  refine congrArg (V m c main_v6) ?_
  blk_ext [index2]

/-- Window 3 stays in place. -/
theorem index3 : ∀ t : Fin cfg0.N, win0_3.index t = ![0, 0] :=
  (by decide +kernel : ∀ t : Fin grid0.N, win0_3.index t = ![0, 0])

/-- Window 3's block is its whole array. -/
theorem blk3 (t : Fin cfg0.N) : (iblk m c 3 t : FVec Ideal S1x128 .f32) = V m c main_v8 := by
  funext x
  blk_simp [iblk]
  refine congrArg (V m c main_v8) ?_
  blk_ext [index3]

/-- Window 4 stays in place. -/
theorem index4 : ∀ t : Fin cfg0.N, win0_4.index t = ![0, 0] :=
  (by decide +kernel : ∀ t : Fin grid0.N, win0_4.index t = ![0, 0])

/-- Window 4's block is its whole array. -/
theorem blk4 (t : Fin cfg0.N) : (iblk m c 4 t : FVec Ideal S128x64 .f32) = V m c main_v38 := by
  funext x
  blk_simp [iblk]
  refine congrArg (V m c main_v38) ?_
  blk_ext [index4]

/-- Window 5 stays in place. -/
theorem index5 : ∀ t : Fin cfg0.N, win0_5.index t = ![0, 0] :=
  (by decide +kernel : ∀ t : Fin grid0.N, win0_5.index t = ![0, 0])

/-- Window 5's block is its whole array. -/
theorem blk5 (t : Fin cfg0.N) : (iblk m c 5 t : FVec Ideal S64x128 .f32) = V m c main_v15 := by
  funext x
  blk_simp [iblk]
  refine congrArg (V m c main_v15) ?_
  blk_ext [index5]

/-- Window 6 stays in place. -/
theorem index6 : ∀ t : Fin cfg0.N, win0_6.index t = ![0, 0] :=
  (by decide +kernel : ∀ t : Fin grid0.N, win0_6.index t = ![0, 0])

/-- Window 6's block is its whole array. -/
theorem blk6 (t : Fin cfg0.N) : (iblk m c 6 t : FVec Ideal S1x128 .f32) = V m c main_v19 := by
  funext x
  blk_simp [iblk]
  refine congrArg (V m c main_v19) ?_
  blk_ext [index6]

/-- Window 7 stays in place. -/
theorem index7 : ∀ t : Fin cfg0.N, win0_7.index t = ![0, 0] :=
  (by decide +kernel : ∀ t : Fin grid0.N, win0_7.index t = ![0, 0])

/-- Window 7's block is its whole array. -/
theorem blk7 (t : Fin cfg0.N) : (iblk m c 7 t : FVec Ideal S1x128 .f32) = V m c main_v22 := by
  funext x
  blk_simp [iblk]
  refine congrArg (V m c main_v22) ?_
  blk_ext [index7]

/-- Window 8 stays in place. -/
theorem index8 : ∀ t : Fin cfg0.N, win0_8.index t = ![0, 0] :=
  (by decide +kernel : ∀ t : Fin grid0.N, win0_8.index t = ![0, 0])

/-- Window 8's block is its whole array. -/
theorem blk8 (t : Fin cfg0.N) : (iblk m c 8 t : FVec Ideal S192x128 .f32) = V m c main_v24 := by
  funext x
  blk_simp [iblk]
  refine congrArg (V m c main_v24) ?_
  blk_ext [index8]

/-- Window 9 stays in place. -/
theorem index9 : ∀ t : Fin cfg0.N, win0_9.index t = ![0, 0] :=
  (by decide +kernel : ∀ t : Fin grid0.N, win0_9.index t = ![0, 0])

/-- Window 9's block is its whole array. -/
theorem blk9 (t : Fin cfg0.N) : (iblk m c 9 t : FVec Ideal S192x64 .f32) = V m c main_arg10 := by
  funext x
  blk_simp [iblk]
  refine congrArg (V m c main_arg10) ?_
  blk_ext [index9]

/-- Window 10 stays in place. -/
theorem index10 : ∀ t : Fin cfg0.N, win0_10.index t = ![0, 0] :=
  (by decide +kernel : ∀ t : Fin grid0.N, win0_10.index t = ![0, 0])

/-- Window 10's block is its whole array. -/
theorem blk10 (t : Fin cfg0.N) : (iblk m c 10 t : FVec Ideal S1x192 .f32) = V m c main_v39 := by
  funext x
  blk_simp [iblk]
  refine congrArg (V m c main_v39) ?_
  blk_ext [index10]

/-- Window 11 stays in place. -/
theorem index11 : ∀ t : Fin cfg0.N, win0_11.index t = ![0, 0] :=
  (by decide +kernel : ∀ t : Fin grid0.N, win0_11.index t = ![0, 0])

/-- Window 11's block is its whole array. -/
theorem blk11 (t : Fin cfg0.N) : (iblk m c 11 t : FVec Ideal S1x192 .f32) = V m c main_v40 := by
  funext x
  blk_simp [iblk]
  refine congrArg (V m c main_v40) ?_
  blk_ext [index11]

/-- Window 12 stays in place. -/
theorem index12 : ∀ t : Fin cfg0.N, win0_12.index t = ![0, 0] :=
  (by decide +kernel : ∀ t : Fin grid0.N, win0_12.index t = ![0, 0])

/-- Window 12's block is its whole array. -/
theorem blk12 (t : Fin cfg0.N) : (iblk m c 12 t : FVec Ideal S64x128 .f32) = V m c main_v27 := by
  funext x
  blk_simp [iblk]
  refine congrArg (V m c main_v27) ?_
  blk_ext [index12]

/-- Window 13 stays in place. -/
theorem index13 : ∀ t : Fin cfg0.N, win0_13.index t = ![0, 0] :=
  (by decide +kernel : ∀ t : Fin grid0.N, win0_13.index t = ![0, 0])

/-- Window 13's block is its whole array. -/
theorem blk13 (t : Fin cfg0.N) : (iblk m c 13 t : FVec Ideal S1x128 .f32) = V m c main_v29 := by
  funext x
  blk_simp [iblk]
  refine congrArg (V m c main_v29) ?_
  blk_ext [index13]

/-- Window 14 stays in place. -/
theorem index14 : ∀ t : Fin cfg0.N, win0_14.index t = ![0, 0] :=
  (by decide +kernel : ∀ t : Fin grid0.N, win0_14.index t = ![0, 0])

/-- Window 14's block is its whole array. -/
theorem blk14 (t : Fin cfg0.N) : (iblk m c 14 t : FVec Ideal S1x128 .f32) = V m c main_v32 := by
  funext x
  blk_simp [iblk]
  refine congrArg (V m c main_v32) ?_
  blk_ext [index14]

/-- Window 15 stays in place. -/
theorem index15 : ∀ t : Fin cfg0.N, win0_15.index t = ![0, 0] :=
  (by decide +kernel : ∀ t : Fin grid0.N, win0_15.index t = ![0, 0])

/-- Window 15's block is its whole array. -/
theorem blk15 (t : Fin cfg0.N) : (iblk m c 15 t : FVec Ideal S128x64 .f32) = V m c main_arg17 := by
  funext x
  blk_simp [iblk]
  refine congrArg (V m c main_arg17) ?_
  blk_ext [index15]

/-- Window 16 stays in place. -/
theorem index16 : ∀ t : Fin cfg0.N, win0_16.index t = ![0, 0] :=
  (by decide +kernel : ∀ t : Fin grid0.N, win0_16.index t = ![0, 0])

/-- Window 16's block is its whole array. -/
theorem blk16 (t : Fin cfg0.N) : (iblk m c 16 t : FVec Ideal S1x64 .f32) = V m c main_v41 := by
  funext x
  blk_simp [iblk]
  refine congrArg (V m c main_v41) ?_
  blk_ext [index16]

/-- Window 17 stays in place. -/
theorem index17 : ∀ t : Fin cfg0.N, win0_17.index t = ![0, 0] :=
  (by decide +kernel : ∀ t : Fin grid0.N, win0_17.index t = ![0, 0])

/-- Window 17's block is its whole array. -/
theorem blk17 (t : Fin cfg0.N) : (iblk m c 17 t : FVec Ideal S64x768 .f32) = V m c main_arg19 := by
  funext x
  blk_simp [iblk]
  refine congrArg (V m c main_arg19) ?_
  blk_ext [index17]

/-- Window 18 stays in place. -/
theorem index18 : ∀ t : Fin cfg0.N, win0_18.index t = ![0, 0] :=
  (by decide +kernel : ∀ t : Fin grid0.N, win0_18.index t = ![0, 0])

/-- Window 18's block is its whole array. -/
theorem blk18 (t : Fin cfg0.N) : (iblk m c 18 t : FVec Ideal S1x768 .f32) = V m c main_v42 := by
  funext x
  blk_simp [iblk]
  refine congrArg (V m c main_v42) ?_
  blk_ext [index18]

end Cert.KernelIdeal.KVal

end
-- ==== Proof.KArr.lean ====
/- What the kernel's output arrays hold after the run, of arguments the model admits: the model's slots and their projection. -/
module

public import proofs.«01_k».proof.Proof.KBlk

@[expose] public section

noncomputable section

namespace Cert.KernelIdeal.KVal

open Cert.KernelIdeal Cert.KernelIdeal.Gen Idealize.ShloMosaic Cert.Model

/-- Every batch element's slots, as an array. -/
def slotsArr (P : Par) (X : Fin 256 → Fin 197 → Fin 768 → ℝ) : FVec Ideal S256x10x64 .f32 :=
  fun y => ((slots P (X (y 0)) (y 1) (y 2) : ℝ) : EReal)

/-- Their projection, as an array. -/
def projArr (P : Par) (X : Fin 256 → Fin 197 → Fin 768 → ℝ) (w : FVec Ideal S64x768 .f32) (b : FVec Ideal S768 .f32) : FVec Ideal S256x10x768 .f32 :=
  fun y => max ((∑ k, ((slots P (X (y 0)) (y 1) k : ℝ) : EReal) * w (ix2 k (y 2))) + b (ix1 (y 2))) 0

variable {m : (ℓ : Loc nD τ sig) → Buf (Elt Ideal) ℓ} {c : Dev nD} {P : Par} {X : Fin 256 → Fin 197 → Fin 768 → ℝ}

/-- The weights' windows hold the model's weights. -/
theorem wts (H : Reals m c P X) (t : Fin cfg0.N) :
    Wts P (iblk m c 5 t) (iblk m c 6 t) (iblk m c 7 t) (iblk m c 8 t) (iblk m c 9 t) (iblk m c 10 t) (iblk m c 11 t)
      (iblk m c 12 t) (iblk m c 13 t) (iblk m c 14 t) (iblk m c 15 t) (iblk m c 16 t) where
  hwq k j := (congrFun (blk5 m c t) _).trans (w5 H k j)
  hcq j := (congrFun (blk6 m c t) _).trans (w6 H j)
  hbq j := (congrFun (blk7 m c t) _).trans (w7 H j)
  hwih k j := (congrFun (blk8 m c t) _).trans (w8 H k j)
  hwhh k j := (congrFun (blk9 m c t) _).trans (w9 H k j)
  hbih j := (congrFun (blk10 m c t) _).trans (w10 H j)
  hbhh j := (congrFun (blk11 m c t) _).trans (w11 H j)
  hw1 k j := (congrFun (blk12 m c t) _).trans (w12 H k j)
  hc1 j := (congrFun (blk13 m c t) _).trans (w13 H j)
  hb1 j := (congrFun (blk14 m c t) _).trans (w14 H j)
  hw2 k j := (congrFun (blk15 m c t) _).trans (w15 H k j)
  hb2 j := (congrFun (blk16 m c t) _).trans (w16 H j)

/-- What a point leaves in output 19's window, as the body's run names it. -/
theorem outs19 (t : Fin cfg0.N) : (outsAt0 m c t).1 = out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by
  simp only [outsAt0]

/-- What a point leaves in output 20's window, as the body's run names it. -/
theorem outs20 (t : Fin cfg0.N) : (outsAt0 m c t).2 = out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by
  simp only [outsAt0]

/-- What a point leaves in output 20's window: its eight batch elements' slots. -/
theorem left20 (H : Reals m c P X) (t : Fin cfg0.N) (b : Fin 8) (s : Fin 10) (j : Fin 64) :
    (outsAt0 m c t).2 (ix3 b s j) = slotsArr P X (ix3 (batch t b) s j) := by
  rw [outs20, out20_apply]
  exact v826_real (X := fun b => X (batch t b)) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    (fun b n k => (blk0 m c t b n k).trans (by rw [V_main_arg0]; exact H.hx _ _ _))
    (fun k j => (congrFun (blk1 m c t) _).trans (w1 H k j))
    (fun j => (congrFun (blk2 m c t) _).trans (w2 H j))
    (fun j => (congrFun (blk3 m c t) _).trans (w3 H j))
    (S := pad16 P) (fun s d => (congrFun (blk4 m c t) _).trans (w4 H b s d)) pad16_up (wts H t) s j

/-- What a point leaves in output 19's window: the projection of its eight batch elements' slots. -/
theorem left19 (H : Reals m c P X) (t : Fin cfg0.N) (b : Fin 8) (s : Fin 10) (j : Fin 768) :
    (outsAt0 m c t).1 (ix3 b s j)
      = projArr P X (m (c, Proc.devRef .tc main_arg19)) (m (c, Proc.devRef .tc main_arg20)) (ix3 (batch t b) s j) := by
  rw [outs19, out19_apply]
  rw [v831_eq, r_2_eq, v281_eq]
  refine (proj2_apply _ _ _ _ _).trans ?_
  refine congrArg₂ max (congrArg₂ HAdd.hAdd (Finset.sum_congr rfl fun k _ => congrArg₂ HMul.hMul ?_ ?_) ?_) rfl
  · exact v826_real (X := fun b => X (batch t b)) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
      (fun b n k => (blk0 m c t b n k).trans (by rw [V_main_arg0]; exact H.hx _ _ _))
      (fun k j => (congrFun (blk1 m c t) _).trans (w1 H k j))
      (fun j => (congrFun (blk2 m c t) _).trans (w2 H j))
      (fun j => (congrFun (blk3 m c t) _).trans (w3 H j))
      (S := pad16 P) (fun s d => (congrFun (blk4 m c t) _).trans (w4 H b s d)) pad16_up (wts H t) s k
  · exact (congrFun (blk17 m c t) _).trans (by rw [V_main_arg19]; rfl)
  · exact (congrFun (blk18 m c t) _).trans (w18 j)

/-- Output 20 after the run: every batch element's slots. -/
theorem arr20 (H : Reals m c P X) : (dats m 0 c).arrAt 20 cfg0.N = slotsArr P X := by
  refine (dats m 0 c).arrAt_eq_of_covers 20 _ (by decide +kernel) fun t hf y => ?_
  blk_simp
  rw [after0_20]
  rw [ValueIdx.eq_ix3 (n0 := 8) (n1 := 10) (n2 := 64) y]
  refine (left20 H t _ _ _).trans (congrArg (slotsArr P X) ?_)
  blk_ext [index20, batch]

/-- Output 19 after the run: the projection of every batch element's slots. -/
theorem arr19 (H : Reals m c P X) : (dats m 0 c).arrAt 19 cfg0.N
    = projArr P X (m (c, Proc.devRef .tc main_arg19)) (m (c, Proc.devRef .tc main_arg20)) := by
  refine (dats m 0 c).arrAt_eq_of_covers 19 _ (by decide +kernel) fun t hf y => ?_
  blk_simp
  rw [after0_19]
  rw [ValueIdx.eq_ix3 (n0 := 8) (n1 := 10) (n2 := 768) y]
  refine (left19 H t _ _ _).trans (congrArg (projArr P X _ _) ?_)
  blk_ext [index19, batch]

end Cert.KernelIdeal.KVal

end
-- ==== Proof.RefStages.lean ====
/- The reference read over the real numbers: its stages as functions of arrays, what each is at an index when its
   arguments are reals, and the reference's results as compositions of the stages. -/
module

public import proofs.«01_k».proof.Proof.Model
public import proofs.«01_k».proof.Proof.Gen.ReferenceIdeal.Run

@[expose] public section

noncomputable section

namespace Cert.ReferenceIdeal.RVal

open Cert.ReferenceIdeal Cert.ReferenceIdeal.Gen Idealize.ShloMosaic Idealize.ShloMosaic.StableHlo Cert.Model

/-! ### The stages -/

/-- The features less their rows' means. -/
def cX (x : FVec Ideal S256x197x768 .f32) : FVec Ideal S256x197x768 .f32 :=
  subf x (broadcastInDim S256x197x768 ![0, 1, 2] bcast_S256x197x1_S256x197x768_0_1_2 (Host.divf (broadcastInDim S256x197x1 ![0, 1] bcast_S256x197_S256x197x1_0_1 (Host.reduceAdd x (constant S_ .f32 0x00000000#32) reducesTo_S256x197x768_S256x197_d2 h_S_)) (broadcastInDim S256x197x1 ![] bcast_S_S256x197x1 (constant S_ .f32 0x44400000#32))))

/-- Layer norm of the features. -/
def lnX (x : FVec Ideal S256x197x768 .f32) (g b : FVec Ideal S768 .f32) : FVec Ideal S256x197x768 .f32 :=
  addf (mulf (Host.divf (subf x (broadcastInDim S256x197x768 ![0, 1, 2] bcast_S256x197x1_S256x197x768_0_1_2 (Host.divf (broadcastInDim S256x197x1 ![0, 1] bcast_S256x197_S256x197x1_0_1 (Host.reduceAdd x (constant S_ .f32 0x00000000#32) reducesTo_S256x197x768_S256x197_d2 h_S_)) (broadcastInDim S256x197x1 ![] bcast_S_S256x197x1 (constant S_ .f32 0x44400000#32))))) (broadcastInDim S256x197x768 ![0, 1, 2] bcast_S256x197x1_S256x197x768_0_1_2 (Host.sqrt (addf (select (broadcastInDim S256x197x1 ![] bcast_S_S256x197x1 (cmpf (F := Ideal) .ogt (subf (constant S_ .f32 0x44400000#32) (sitofp .f32 (constantI S_ 32 0#32))) (constant S_ .f32 0x00000000#32))) (Host.divf (broadcastInDim S256x197x1 ![0, 1] bcast_S256x197_S256x197x1_0_1 (Host.reduceAdd (mulf (cX x) (cX x)) (constant S_ .f32 0x00000000#32) reducesTo_S256x197x768_S256x197_d2 h_S_)) (broadcastInDim S256x197x1 ![] bcast_S_S256x197x1 (subf (constant S_ .f32 0x44400000#32) (sitofp .f32 (constantI S_ 32 0#32))))) (broadcastInDim S256x197x1 ![] bcast_S_S256x197x1 (id (constant S_ .f32 0x7FC00000#32)))) (broadcastInDim S256x197x1 ![] bcast_S_S256x197x1 (constant S_ .f32 0x3727C5AC#32)))))) (broadcastInDim S256x197x768 ![0, 1, 2] bcast_S1x1x768_S256x197x768_0_1_2 (broadcastInDim S1x1x768 ![2] bcast_S768_S1x1x768_2 g))) (broadcastInDim S256x197x768 ![0, 1, 2] bcast_S1x1x768_S256x197x768_0_1_2 (broadcastInDim S1x1x768 ![2] bcast_S768_S1x1x768_2 b))

/-- The slots less their rows' means. -/
def cS (x : FVec Ideal S256x10x64 .f32) : FVec Ideal S256x10x64 .f32 :=
  subf x (broadcastInDim S256x10x64 ![0, 1, 2] bcast_S256x10x1_S256x10x64_0_1_2 (Host.divf (broadcastInDim S256x10x1 ![0, 1] bcast_S256x10_S256x10x1_0_1 (Host.reduceAdd x (constant S_ .f32 0x00000000#32) reducesTo_S256x10x64_S256x10_d2 h_S_)) (broadcastInDim S256x10x1 ![] bcast_S_S256x10x1 (constant S_ .f32 0x42800000#32))))

/-- Layer norm of the slots. -/
def lnS (x : FVec Ideal S256x10x64 .f32) (g b : FVec Ideal S64 .f32) : FVec Ideal S256x10x64 .f32 :=
  addf (mulf (Host.divf (subf x (broadcastInDim S256x10x64 ![0, 1, 2] bcast_S256x10x1_S256x10x64_0_1_2 (Host.divf (broadcastInDim S256x10x1 ![0, 1] bcast_S256x10_S256x10x1_0_1 (Host.reduceAdd x (constant S_ .f32 0x00000000#32) reducesTo_S256x10x64_S256x10_d2 h_S_)) (broadcastInDim S256x10x1 ![] bcast_S_S256x10x1 (constant S_ .f32 0x42800000#32))))) (broadcastInDim S256x10x64 ![0, 1, 2] bcast_S256x10x1_S256x10x64_0_1_2 (Host.sqrt (addf (select (broadcastInDim S256x10x1 ![] bcast_S_S256x10x1 (cmpf (F := Ideal) .ogt (subf (constant S_ .f32 0x42800000#32) (sitofp .f32 (constantI S_ 32 0#32))) (constant S_ .f32 0x00000000#32))) (Host.divf (broadcastInDim S256x10x1 ![0, 1] bcast_S256x10_S256x10x1_0_1 (Host.reduceAdd (mulf (cS x) (cS x)) (constant S_ .f32 0x00000000#32) reducesTo_S256x10x64_S256x10_d2 h_S_)) (broadcastInDim S256x10x1 ![] bcast_S_S256x10x1 (subf (constant S_ .f32 0x42800000#32) (sitofp .f32 (constantI S_ 32 0#32))))) (broadcastInDim S256x10x1 ![] bcast_S_S256x10x1 (id (constant S_ .f32 0x7FC00000#32)))) (broadcastInDim S256x10x1 ![] bcast_S_S256x10x1 (constant S_ .f32 0x3727C5AC#32)))))) (broadcastInDim S256x10x64 ![0, 1, 2] bcast_S1x1x64_S256x10x64_0_1_2 (broadcastInDim S1x1x64 ![2] bcast_S64_S1x1x64_2 g))) (broadcastInDim S256x10x64 ![0, 1, 2] bcast_S1x1x64_S256x10x64_0_1_2 (broadcastInDim S1x1x64 ![2] bcast_S64_S1x1x64_2 b))

/-- The features' keys, or values. -/
def proj (x : FVec Ideal S256x197x768 .f32) (w : FVec Ideal S768x64 .f32) : FVec Ideal S256x197x64 .f32 :=
  Host.dotGeneral dot_S256x197x768_S768x64_S256x197x64_2_0_01_1_n_n none x w

/-- How well the slots fit the features. -/
def dots (s : FVec Ideal S256x10x64 .f32) (g b : FVec Ideal S64 .f32) (wq : FVec Ideal S64x64 .f32) (k : FVec Ideal S256x197x64 .f32) :
    FVec Ideal S256x10x197 .f32 :=
  mulf (Host.dotGeneral dot_S256x10x64_S256x197x64_S256x10x197_2_2_1_1_0_0 none (Host.dotGeneral dot_S256x10x64_S64x64_S256x10x64_2_0_01_1_n_n none (lnS s g b) wq) k) (broadcastInDim S256x10x197 ![] bcast_S_S256x10x197 (constant S_ .f32 0x3E000000#32))

/-- The exponentials, each less its column's largest. -/
def expo (d : FVec Ideal S256x10x197 .f32) : FVec Ideal S256x10x197 .f32 :=
  Host.exp (subf d (broadcastInDim S256x10x197 ![0, 1, 2] bcast_S256x1x197_S256x10x197_0_1_2 (broadcastInDim S256x1x197 ![0, 2] bcast_S256x197_S256x1x197_0_2 (maximumf (broadcastInDim S256x197 ![] bcast_S_S256x197 (constant S_ .f32 0xFF800000#32)) (Host.reduce FloatOps.maximumf d (constant S_ .f32 0xFF800000#32) reducesTo_S256x10x197_S256x197_d1 h_S_)))))

/-- The attention weights before their rows are divided by their sums. -/
def weig (e : FVec Ideal S256x10x197 .f32) : FVec Ideal S256x10x197 .f32 :=
  addf (Host.divf e (broadcastInDim S256x10x197 ![0, 1, 2] bcast_S256x1x197_S256x10x197_0_1_2 (broadcastInDim S256x1x197 ![0, 2] bcast_S256x197_S256x1x197_0_2 (Host.reduceAdd e (constant S_ .f32 0x00000000#32) reducesTo_S256x10x197_S256x197_d1 h_S_)))) (broadcastInDim S256x10x197 ![] bcast_S_S256x10x197 (constant S_ .f32 0x322BCC77#32))

/-- The recurrent unit's product with what the slots read. -/
def gx (a : FVec Ideal S256x10x197 .f32) (v : FVec Ideal S256x197x64 .f32) (w : FVec Ideal S192x64 .f32) (b : FVec Ideal S192 .f32) :
    FVec Ideal S256x10x192 .f32 :=
  addf (Host.dotGeneral dot_S256x10x64_S64x192_S256x10x192_2_0_01_1_n_n none (Host.dotGeneral dot_S256x10x197_S256x197x64_S256x10x64_2_1_1_2_0_0 none (Host.divf a (broadcastInDim S256x10x197 ![0, 1, 2] bcast_S256x10x1_S256x10x197_0_1_2 (broadcastInDim S256x10x1 ![0, 1] bcast_S256x10_S256x10x1_0_1 (Host.reduceAdd a (constant S_ .f32 0x00000000#32) reducesTo_S256x10x197_S256x10_d2 h_S_)))) v) (transpose S64x192 [1, 0] w transposes_S192x64_S64x192_1_0)) (broadcastInDim S256x10x192 ![0, 1, 2] bcast_S1x1x192_S256x10x192_0_1_2 (broadcastInDim S1x1x192 ![2] bcast_S192_S1x1x192_2 b))

/-- The recurrent unit's product with its state. -/
def gh (s : FVec Ideal S256x10x64 .f32) (w : FVec Ideal S192x64 .f32) (b : FVec Ideal S192 .f32) : FVec Ideal S256x10x192 .f32 :=
  addf (Host.dotGeneral dot_S256x10x64_S64x192_S256x10x192_2_0_01_1_n_n none s (transpose S64x192 [1, 0] w transposes_S192x64_S64x192_1_0)) (broadcastInDim S256x10x192 ![0, 1, 2] bcast_S1x1x192_S256x10x192_0_1_2 (broadcastInDim S1x1x192 ![2] bcast_S192_S1x1x192_2 b))

/-- The logistic function of an array. -/
def logi (x : FVec Ideal S256x10x64 .f32) : FVec Ideal S256x10x64 .f32 :=
  Host.divf (broadcastInDim S256x10x64 ![] bcast_S_S256x10x64 (constant S_ .f32 0x3F800000#32)) (addf (broadcastInDim S256x10x64 ![] bcast_S_S256x10x64 (constant S_ .f32 0x3F800000#32)) (Host.exp (Host.negf x)))

/-- The recurrent unit's gate. -/
def gate (x h : FVec Ideal S256x10x192 .f32) : FVec Ideal S256x10x64 .f32 :=
  logi (addf (extractStridedSlice S256x10x64 ![0, 0, 64] x slices_S256x10x192_S256x10x64_0_0_64) (extractStridedSlice S256x10x64 ![0, 0, 64] h slices_S256x10x192_S256x10x64_0_0_64))

/-- The recurrent unit's result. -/
def unit (x h : FVec Ideal S256x10x192 .f32) (z s : FVec Ideal S256x10x64 .f32) : FVec Ideal S256x10x64 .f32 :=
  addf (mulf (subf (broadcastInDim S256x10x64 ![] bcast_S_S256x10x64 (constant S_ .f32 0x3F800000#32)) z) (Host.tanh (addf (extractStridedSlice S256x10x64 ![0, 0, 128] x slices_S256x10x192_S256x10x64_0_0_128) (mulf (logi (addf (extractStridedSlice S256x10x64 ![0, 0, 0] x slices_S256x10x192_S256x10x64_0_0_0) (extractStridedSlice S256x10x64 ![0, 0, 0] h slices_S256x10x192_S256x10x64_0_0_0))) (extractStridedSlice S256x10x64 ![0, 0, 128] h slices_S256x10x192_S256x10x64_0_0_128))))) (mulf z s)

/-- The hidden layer. -/
def hidd (y : FVec Ideal S256x10x64 .f32) (w : FVec Ideal S64x128 .f32) (b : FVec Ideal S128 .f32) : FVec Ideal S256x10x128 .f32 :=
  maximumf (addf (Host.dotGeneral dot_S256x10x64_S64x128_S256x10x128_2_0_01_1_n_n none y w) (broadcastInDim S256x10x128 ![0, 1, 2] bcast_S1x1x128_S256x10x128_0_1_2 (broadcastInDim S1x1x128 ![2] bcast_S128_S1x1x128_2 b))) (broadcastInDim S256x10x128 ![] bcast_S_S256x10x128 (constant S_ .f32 0x00000000#32))

/-- The last layers, added to what they are given. -/
def last (y : FVec Ideal S256x10x64 .f32) (g b : FVec Ideal S64 .f32) (w1 : FVec Ideal S64x128 .f32) (b1 : FVec Ideal S128 .f32) (w2 : FVec Ideal S128x64 .f32) (b2 : FVec Ideal S64 .f32) : FVec Ideal S256x10x64 .f32 :=
  addf y (addf (Host.dotGeneral dot_S256x10x128_S128x64_S256x10x64_2_0_01_1_n_n none (hidd (lnS y g b) w1 b1) w2) (broadcastInDim S256x10x64 ![0, 1, 2] bcast_S1x1x64_S256x10x64_0_1_2 (broadcastInDim S1x1x64 ![2] bcast_S64_S1x1x64_2 b2)))

/-- The decoder's projection. -/
def proj2 (s : FVec Ideal S256x10x64 .f32) (w : FVec Ideal S64x768 .f32) (b : FVec Ideal S768 .f32) : FVec Ideal S256x10x768 .f32 :=
  maximumf (addf (Host.dotGeneral dot_S256x10x64_S64x768_S256x10x768_2_0_01_1_n_n none s w) (broadcastInDim S256x10x768 ![0, 1, 2] bcast_S1x1x768_S256x10x768_0_1_2 (broadcastInDim S1x1x768 ![2] bcast_S768_S1x1x768_2 b))) (broadcastInDim S256x10x768 ![] bcast_S_S256x10x768 (constant S_ .f32 0x00000000#32))

/-! ### The stages at an index -/

/-- Layer norm of a row of reals, as the reference computes it. -/
theorem ln_read {n : Nat} (hn : 0 < n) {N : ℝ} (hN : N = n) (x g : Fin n → ℝ) (b : Fin n → EReal) (j : Fin n) (c : EReal) :
    Ideal.div ((x j : EReal) - Ideal.div (∑ k, (x k : EReal)) (N : EReal))
          (Ideal.sqrt ((if (0 : EReal) < (N : EReal) - 0 then
              Ideal.div (∑ k, ((x k : EReal) - Ideal.div (∑ l, (x l : EReal)) (N : EReal)) *
                ((x k : EReal) - Ideal.div (∑ l, (x l : EReal)) (N : EReal))) ((N : EReal) - 0)
            else c) + (eps : EReal))) * (g j : EReal) + b j = lnE x g b j := by
  have hp : (0 : ℝ) < N := by rw [hN]; exact Nat.cast_pos.mpr hn
  have hpos : (0 : EReal) < (N : EReal) := EReal.coe_pos.mpr hp
  rw [sub_zero, if_pos hpos, ← coe_sum, div_real _ hp.ne']
  simp only [← EReal.coe_sub, ← EReal.coe_mul]
  rw [← coe_sum, div_real _ hp.ne', ← EReal.coe_add]
  subst hN
  have hv : 0 < vari x + eps := add_pos_of_nonneg_of_pos (vari_nonneg x) eps_pos
  rw [show ((∑ k, (x k - (∑ l, x l) / (n : ℝ)) * (x k - (∑ l, x l) / (n : ℝ))) / (n : ℝ)) = vari x from rfl, sqrt_real hv.le,
    div_real _ (Real.sqrt_pos.mpr hv).ne', ← EReal.coe_mul]
  unfold lnE ln
  rw [add_zero]
  rfl

/-- The integer word zero, as a number. -/
theorem sitofp_zero : (FloatOps.sitofp .f32 (0#32 : BitVec 32) : Ideal .f32) = (0 : EReal) := by
  show (((0#32 : BitVec 32).toInt : ℝ) : EReal) = 0
  simp

/-- Layer norm of a feature row of reals. -/
theorem lnX_real {x : FVec Ideal S256x197x768 .f32} {g b : FVec Ideal S768 .f32} {i : Fin 256} {n : Fin 197} {X G : Fin 768 → ℝ} {B : Fin 768 → EReal}
    (hx : ∀ j, x (ix3 i n j) = ((X j : ℝ) : EReal)) (hg : ∀ j, g (ix1 j) = ((G j : ℝ) : EReal))
    (hb : ∀ j, b (ix1 j) = B j) (j : Fin 768) :
    lnX x g b (ix3 i n j) = lnE X G B j := by
  pointwise [lnX, cX, bits_768, bits_eps]
  simp only [hx, hg, hb, sitofp_zero]
  exact ln_read (by decide) (by norm_num) X G B j _

/-- Layer norm of a slot of reals. -/
theorem lnS_real {x : FVec Ideal S256x10x64 .f32} {g b : FVec Ideal S64 .f32} {i : Fin 256} {n : Fin 10} {X G : Fin 64 → ℝ} {B : Fin 64 → EReal}
    (hx : ∀ j, x (ix3 i n j) = ((X j : ℝ) : EReal)) (hg : ∀ j, g (ix1 j) = ((G j : ℝ) : EReal))
    (hb : ∀ j, b (ix1 j) = B j) (j : Fin 64) :
    lnS x g b (ix3 i n j) = lnE X G B j := by
  pointwise [lnS, cS, bits_64, bits_eps]
  simp only [hx, hg, hb, sitofp_zero]
  exact ln_read (by decide) (by norm_num) X G B j _

/-- A key, or a value, of real weights. -/
theorem proj_real {x : FVec Ideal S256x197x768 .f32} {w : FVec Ideal S768x64 .f32} {i : Fin 256} {n : Fin 197} {X : Fin 768 → EReal}
    {W : Fin 768 → Fin 64 → ℝ} (hx : ∀ j, x (ix3 i n j) = X j) (hw : ∀ k j, w (ix2 k j) = ((W k j : ℝ) : EReal))
    (j : Fin 64) : proj x w (ix3 i n j) = ∑ k, X k * (W k j : EReal) := by
  pointwise [proj]
  simp only [hx, hw]

/-- How well a slot of reals fits a key. -/
theorem dots_real {s : FVec Ideal S256x10x64 .f32} {g b : FVec Ideal S64 .f32} {wq : FVec Ideal S64x64 .f32} {k : FVec Ideal S256x197x64 .f32}
    {i : Fin 256} {t : Fin 10} {n : Fin 197} {S G : Fin 64 → ℝ} {B K : Fin 64 → EReal} {Wq : Fin 64 → Fin 64 → ℝ}
    (hs : ∀ j, s (ix3 i t j) = ((S j : ℝ) : EReal)) (hg : ∀ j, g (ix1 j) = ((G j : ℝ) : EReal))
    (hb : ∀ j, b (ix1 j) = B j) (hw : ∀ k j, wq (ix2 k j) = ((Wq k j : ℝ) : EReal))
    (hk : ∀ j, k (ix3 i n j) = K j) :
    dots s g b wq k (ix3 i t n) = (∑ d, (∑ k, lnE S G B k * (Wq k d : EReal)) * K d) * ((1 / 8 : ℝ) : EReal) := by
  pointwise [dots, bits_eighth]
  simp only [lnS_real hs hg hb, hw, hk]

/-- The exponentials of a column. -/
theorem expo_read {d : FVec Ideal S256x10x197 .f32} {i : Fin 256} {n : Fin 197} {D : Fin 10 → EReal}
    (hd : ∀ t, d (ix3 i t n) = D t) (t : Fin 10) : expo d (ix3 i t n) = expd D t := by
  pointwise [expo, bits_bot]
  simp only [hd, max_eq_right (bot_le : (⊥ : EReal) ≤ _)]
  rfl

/-- The weights of a column. -/
theorem weig_read {d : FVec Ideal S256x10x197 .f32} {i : Fin 256} {n : Fin 197} {D : Fin 10 → EReal}
    (hd : ∀ t, d (ix3 i t n) = D t) (t : Fin 10) :
    weig (expo d) (ix3 i t n) = Ideal.div (expd D t) (∑ u, expd D u) + (delta : EReal) := by
  have he := expo_read hd
  revert he
  generalize expo d = e
  intro he
  pointwise [weig, bits_delta]
  simp only [he]

/-- The recurrent unit's product with what a slot reads. -/
theorem gx_read {a : FVec Ideal S256x10x197 .f32} {v : FVec Ideal S256x197x64 .f32} {w : FVec Ideal S192x64 .f32} {b : FVec Ideal S192 .f32}
    {i : Fin 256} {t : Fin 10} {A : Fin 197 → EReal} {R : Fin 197 → Fin 64 → EReal} {W : Fin 192 → Fin 64 → EReal} {B : Fin 192 → EReal}
    (ha : ∀ n, a (ix3 i t n) = A n) (hv : ∀ n d, v (ix3 i n d) = R n d)
    (hw : ∀ k j, w (ix2 k j) = W k j) (hb : ∀ j, b (ix1 j) = B j) (j : Fin 192) :
    gx a v w b (ix3 i t j) = (∑ d, (∑ n, share A n * R n d) * W j d) + B j := by
  pointwise [gx]
  simp only [ha, hv, hw, hb]
  rfl

/-- The recurrent unit's product with its state. -/
theorem gh_read {s : FVec Ideal S256x10x64 .f32} {w : FVec Ideal S192x64 .f32} {b : FVec Ideal S192 .f32}
    {i : Fin 256} {t : Fin 10} {S : Fin 64 → ℝ} {W : Fin 192 → Fin 64 → EReal} {B : Fin 192 → EReal}
    (hs : ∀ j, s (ix3 i t j) = ((S j : ℝ) : EReal))
    (hw : ∀ k j, w (ix2 k j) = W k j) (hb : ∀ j, b (ix1 j) = B j) (j : Fin 192) :
    gh s w b (ix3 i t j) = (∑ d, (S d : EReal) * W j d) + B j := by
  pointwise [gh]
  simp only [hs, hw, hb]

/-- The logistic function, as the reference computes it. -/
theorem sig_read (x : EReal) : Ideal.div 1 (1 + Ideal.exp (-x)) = ((Cert.Model.sig x : ℝ) : EReal) := logistic_eq x

/-- The recurrent unit's gate. -/
theorem gate_real {x h : FVec Ideal S256x10x192 .f32} {i : Fin 256} {t : Fin 10} {X H : Fin 192 → EReal}
    (hx : ∀ j, x (ix3 i t j) = X j) (hh : ∀ j, h (ix3 i t j) = H j) (d : Fin 64) :
    gate x h (ix3 i t d) = ((gateZ X H d : ℝ) : EReal) := by
  pointwise [gate, logi]
  simp only [hx, hh, sig_read]
  rfl

/-- The recurrent unit's result, of a real state. -/
theorem unit_real {x h : FVec Ideal S256x10x192 .f32} {s : FVec Ideal S256x10x64 .f32} {i : Fin 256} {t : Fin 10} {X H : Fin 192 → EReal}
    {S : Fin 64 → ℝ} (hx : ∀ j, x (ix3 i t j) = X j) (hh : ∀ j, h (ix3 i t j) = H j)
    (hs : ∀ j, s (ix3 i t j) = ((S j : ℝ) : EReal)) (d : Fin 64) :
    unit x h (gate x h) s (ix3 i t d) = ((gru X H S d : ℝ) : EReal) := by
  have hz := gate_real hx hh d
  revert hz
  generalize gate x h = z
  intro hz
  pointwise [unit, logi]
  simp only [hx, hh, hs, hz, sig_read, tanh_eq]
  simp only [← EReal.coe_mul, ← EReal.coe_one, ← EReal.coe_sub, ← EReal.coe_add]
  rfl

/-- The hidden layer, of reals. -/
theorem hidd_real {y : FVec Ideal S256x10x64 .f32} {w : FVec Ideal S64x128 .f32} {b : FVec Ideal S128 .f32} {i : Fin 256} {t : Fin 10}
    {Y : Fin 64 → ℝ} {W : Fin 64 → Fin 128 → ℝ} {B : Fin 128 → ℝ} (hy : ∀ j, y (ix3 i t j) = ((Y j : ℝ) : EReal))
    (hw : ∀ k j, w (ix2 k j) = ((W k j : ℝ) : EReal)) (hb : ∀ j, b (ix1 j) = ((B j : ℝ) : EReal)) (j : Fin 128) :
    hidd y w b (ix3 i t j) = ((max ((∑ k, Y k * W k j) + B j) 0 : ℝ) : EReal) := by
  pointwise [hidd]
  simp only [hy, hw, hb, ← coe_sum, ← EReal.coe_mul, ← EReal.coe_add, ← EReal.coe_zero, max_real]

/-- The last layers, of reals. -/
theorem last_real {y : FVec Ideal S256x10x64 .f32} {g b : FVec Ideal S64 .f32} {w1 : FVec Ideal S64x128 .f32} {b1 : FVec Ideal S128 .f32}
    {w2 : FVec Ideal S128x64 .f32} {b2 : FVec Ideal S64 .f32} {i : Fin 256} {t : Fin 10} {Y : Fin 64 → ℝ} {P : Par}
    (hy : ∀ j, y (ix3 i t j) = ((Y j : ℝ) : EReal)) (hg : ∀ j, g (ix1 j) = ((P.gm j : ℝ) : EReal))
    (hb : ∀ j, b (ix1 j) = ((P.bm j : ℝ) : EReal)) (hw1 : ∀ k j, w1 (ix2 k j) = ((P.W1 k j : ℝ) : EReal))
    (hb1 : ∀ j, b1 (ix1 j) = ((P.b1 j : ℝ) : EReal)) (hw2 : ∀ k j, w2 (ix2 k j) = ((P.W2 k j : ℝ) : EReal))
    (hb2 : ∀ j, b2 (ix1 j) = ((P.b2 j : ℝ) : EReal)) (d : Fin 64) :
    last y g b w1 b1 w2 b2 (ix3 i t d) = ((mlp P Y d : ℝ) : EReal) := by
  pointwise [last]
  simp only [hidd_real (fun j => (lnS_real hy hg hb j).trans (lnE_coe _ _ _ j)) hw1 hb1, hy, hw2, hb2, ← coe_sum, ← EReal.coe_mul, ← EReal.coe_add]
  rfl

/-- The decoder's projection at an index. -/
theorem proj2_apply (s : FVec Ideal S256x10x64 .f32) (w : FVec Ideal S64x768 .f32) (b : FVec Ideal S768 .f32) (i : Fin 256) (t : Fin 10)
    (j : Fin 768) : proj2 s w b (ix3 i t j) = max ((∑ k, s (ix3 i t k) * w (ix2 k j)) + b (ix1 j)) 0 := by
  pointwise [proj2]

/-! ### One round -/

/-- One round of the reference: the slots' new values. -/
def round (k v : FVec Ideal S256x197x64 .f32) (gs bs : FVec Ideal S64 .f32) (wq : FVec Ideal S64x64 .f32)
    (wih whh : FVec Ideal S192x64 .f32) (bih bhh : FVec Ideal S192 .f32) (gm bm : FVec Ideal S64 .f32) (w1 : FVec Ideal S64x128 .f32)
    (b1 : FVec Ideal S128 .f32) (w2 : FVec Ideal S128x64 .f32) (b2 : FVec Ideal S64 .f32) (s : FVec Ideal S256x10x64 .f32) :
    FVec Ideal S256x10x64 .f32 :=
  last (unit (gx (weig (expo (dots s gs bs wq k))) v wih bih) (gh s whh bhh)
    (gate (gx (weig (expo (dots s gs bs wq k))) v wih bih) (gh s whh bhh)) s) gm bm w1 b1 w2 b2

/-- One round of the reference on reals is the model's round. -/
theorem round_real {k v : FVec Ideal S256x197x64 .f32} {gs bs : FVec Ideal S64 .f32} {wq : FVec Ideal S64x64 .f32}
    {wih whh : FVec Ideal S192x64 .f32} {bih bhh : FVec Ideal S192 .f32} {gm bm : FVec Ideal S64 .f32} {w1 : FVec Ideal S64x128 .f32}
    {b1 : FVec Ideal S128 .f32} {w2 : FVec Ideal S128x64 .f32} {b2 : FVec Ideal S64 .f32} {P : Par}
    {i : Fin 256} {X : Fin 197 → Fin 768 → ℝ}
    (hk : ∀ n j, k (ix3 i n j) = key P (X n) j) (hv : ∀ n j, v (ix3 i n j) = value P (X n) j)
    (hgs : ∀ j, gs (ix1 j) = ((P.gs j : ℝ) : EReal)) (hbs : ∀ j, bs (ix1 j) = P.bs j)
    (hwq : ∀ k j, wq (ix2 k j) = ((P.Wq k j : ℝ) : EReal)) (hwih : ∀ k j, wih (ix2 k j) = P.Wih k j)
    (hwhh : ∀ k j, whh (ix2 k j) = P.Whh k j) (hbih : ∀ j, bih (ix1 j) = P.bih j)
    (hbhh : ∀ j, bhh (ix1 j) = P.bhh j) (hgm : ∀ j, gm (ix1 j) = ((P.gm j : ℝ) : EReal))
    (hbm : ∀ j, bm (ix1 j) = ((P.bm j : ℝ) : EReal)) (hw1 : ∀ k j, w1 (ix2 k j) = ((P.W1 k j : ℝ) : EReal))
    (hb1 : ∀ j, b1 (ix1 j) = ((P.b1 j : ℝ) : EReal)) (hw2 : ∀ k j, w2 (ix2 k j) = ((P.W2 k j : ℝ) : EReal))
    (hb2 : ∀ j, b2 (ix1 j) = ((P.b2 j : ℝ) : EReal))
    {s : FVec Ideal S256x10x64 .f32} {S : Fin 10 → Fin 64 → ℝ} (hs : ∀ t j, s (ix3 i t j) = ((S t j : ℝ) : EReal)) (t : Fin 10) (d : Fin 64) :
    round k v gs bs wq wih whh bih bhh gm bm w1 b1 w2 b2 s (ix3 i t d) = ((step P X S t d : ℝ) : EReal) := by
  have hd : ∀ t n, dots s gs bs wq k (ix3 i t n) = fit P X S t n := fun t n => dots_real (hs t) hgs hbs hwq (hk n)
  have ha : ∀ t n, weig (expo (dots s gs bs wq k)) (ix3 i t n) = att (fit P X S) t n := fun t n => weig_read (fun u => hd u n) t
  have hgx : ∀ j, gx (weig (expo (dots s gs bs wq k))) v wih bih (ix3 i t j) = gxR P (read P X S t) j := fun j =>
    gx_read (ha t) hv hwih hbih j
  have hgh : ∀ j, gh s whh bhh (ix3 i t j) = ghR P (S t) j := fun j => gh_read (hs t) hwhh hbhh j
  exact last_real (unit_real hgx hgh (hs t)) hgm hbm hw1 hb1 hw2 hb2 d

end Cert.ReferenceIdeal.RVal

end
-- ==== Proof.RefRun.lean ====
/- The reference's result arrays are the stages' compositions, and so, for real arguments, the model's slots. -/
module

public import proofs.«01_k».proof.Proof.RefStages

@[expose] public section

set_option maxRecDepth 8192

noncomputable section

namespace Cert.ReferenceIdeal.RVal

open Cert.ReferenceIdeal Cert.ReferenceIdeal.Gen Cert.ReferenceIdeal.Value Idealize.ShloMosaic Idealize.ShloMosaic.StableHlo Cert.Model

variable (V0 : Valuation τ Cert.ReferenceIdeal.sig (Elt Ideal))

/-- The features' norm. -/
theorem v17_eq : res_main_v17 V0 = lnX (V0 (Proc.devRef .tc main_arg0)) (V0 (Proc.devRef .tc main_arg1)) (V0 (Proc.devRef .tc main_arg2)) := rfl
/-- The keys. -/
theorem v18_eq : res_main_v18 V0 = proj (res_main_v17 V0) (V0 (Proc.devRef .tc main_arg7)) := rfl
/-- The values. -/
theorem v19_eq : res_main_v19 V0 = proj (res_main_v17 V0) (V0 (Proc.devRef .tc main_arg8)) := rfl

/-- The first round's fits. -/
theorem v42_eq : res_main_v42 V0 = dots (res_main_v20 V0) (V0 (Proc.devRef .tc main_arg4)) (V0 (Proc.devRef .tc main_arg5)) (V0 (Proc.devRef .tc main_arg6)) (res_main_v18 V0) := rfl
/-- The first round's exponentials. -/
theorem v49_eq : res_main_v49 V0 = expo (res_main_v42 V0) := rfl
/-- The first round's weights. -/
theorem v55_eq : res_main_v55 V0 = weig (res_main_v49 V0) := rfl
/-- The first round's product with what the slots read. -/
theorem v65_eq : res_main_v65 V0 = gx (res_main_v55 V0) (res_main_v19 V0) (V0 (Proc.devRef .tc main_arg9)) (V0 (Proc.devRef .tc main_arg11)) := rfl
/-- The first round's product with the state. -/
theorem v70_eq : res_main_v70 V0 = gh (res_main_v20 V0) (V0 (Proc.devRef .tc main_arg10)) (V0 (Proc.devRef .tc main_arg12)) := rfl
/-- The first round's gate. -/
theorem v90_eq : res_main_v90 V0 = gate (res_main_v65 V0) (res_main_v70 V0) := rfl
/-- The first round's recurrent unit. -/
theorem v98_eq : res_main_v98 V0 = unit (res_main_v65 V0) (res_main_v70 V0) (res_main_v90 V0) (res_main_v20 V0) := rfl
/-- The first round's last layers. -/
theorem v126_eq : res_main_v126 V0 = last (res_main_v98 V0) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := rfl

/-- The second round's fits. -/
theorem v148_eq : res_main_v148 V0 = dots (res_main_v126 V0) (V0 (Proc.devRef .tc main_arg4)) (V0 (Proc.devRef .tc main_arg5)) (V0 (Proc.devRef .tc main_arg6)) (res_main_v18 V0) := rfl
/-- The second round's exponentials. -/
theorem v155_eq : res_main_v155 V0 = expo (res_main_v148 V0) := rfl
/-- The second round's weights. -/
theorem v161_eq : res_main_v161 V0 = weig (res_main_v155 V0) := rfl
/-- The second round's product with what the slots read. -/
theorem v171_eq : res_main_v171 V0 = gx (res_main_v161 V0) (res_main_v19 V0) (V0 (Proc.devRef .tc main_arg9)) (V0 (Proc.devRef .tc main_arg11)) := rfl
/-- The second round's product with the state. -/
theorem v176_eq : res_main_v176 V0 = gh (res_main_v126 V0) (V0 (Proc.devRef .tc main_arg10)) (V0 (Proc.devRef .tc main_arg12)) := rfl
/-- The second round's gate. -/
theorem v196_eq : res_main_v196 V0 = gate (res_main_v171 V0) (res_main_v176 V0) := rfl
/-- The second round's recurrent unit. -/
theorem v204_eq : res_main_v204 V0 = unit (res_main_v171 V0) (res_main_v176 V0) (res_main_v196 V0) (res_main_v126 V0) := rfl
/-- The second round's last layers. -/
theorem v232_eq : res_main_v232 V0 = last (res_main_v204 V0) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := rfl

/-- The third round's fits. -/
theorem v254_eq : res_main_v254 V0 = dots (res_main_v232 V0) (V0 (Proc.devRef .tc main_arg4)) (V0 (Proc.devRef .tc main_arg5)) (V0 (Proc.devRef .tc main_arg6)) (res_main_v18 V0) := rfl
/-- The third round's exponentials. -/
theorem v261_eq : res_main_v261 V0 = expo (res_main_v254 V0) := rfl
/-- The third round's weights. -/
theorem v267_eq : res_main_v267 V0 = weig (res_main_v261 V0) := rfl
/-- The third round's product with what the slots read. -/
theorem v277_eq : res_main_v277 V0 = gx (res_main_v267 V0) (res_main_v19 V0) (V0 (Proc.devRef .tc main_arg9)) (V0 (Proc.devRef .tc main_arg11)) := rfl
/-- The third round's product with the state. -/
theorem v282_eq : res_main_v282 V0 = gh (res_main_v232 V0) (V0 (Proc.devRef .tc main_arg10)) (V0 (Proc.devRef .tc main_arg12)) := rfl
/-- The third round's gate. -/
theorem v302_eq : res_main_v302 V0 = gate (res_main_v277 V0) (res_main_v282 V0) := rfl
/-- The third round's recurrent unit. -/
theorem v310_eq : res_main_v310 V0 = unit (res_main_v277 V0) (res_main_v282 V0) (res_main_v302 V0) (res_main_v232 V0) := rfl

/-- One round with the program's arguments. -/
def rnd (s : FVec Ideal S256x10x64 .f32) : FVec Ideal S256x10x64 .f32 :=
  round (res_main_v18 V0) (res_main_v19 V0) (V0 (Proc.devRef .tc main_arg4)) (V0 (Proc.devRef .tc main_arg5)) (V0 (Proc.devRef .tc main_arg6)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) s

/-- The slots after the third round. -/
def fin : FVec Ideal S256x10x64 .f32 := last (res_main_v310 V0) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18))

/-- The slots after the first round. -/
theorem v126_round : res_main_v126 V0 = rnd V0 (res_main_v20 V0) := by
  rw [v126_eq, v98_eq, v90_eq, v70_eq, v65_eq, v55_eq, v49_eq, v42_eq]; rfl
/-- The slots after the second round. -/
theorem v232_round : res_main_v232 V0 = rnd V0 (res_main_v126 V0) := by
  rw [v232_eq, v204_eq, v196_eq, v176_eq, v171_eq, v161_eq, v155_eq, v148_eq]; rfl
/-- The slots after the third round, as a round. -/
theorem fin_round : fin V0 = rnd V0 (res_main_v232 V0) := by
  rw [fin, v310_eq, v302_eq, v282_eq, v277_eq, v267_eq, v261_eq, v254_eq]; rfl

/-- The arguments that pass through a layer norm are the reals of `P` and `X`. -/
structure Reals (V0 : Valuation τ Cert.ReferenceIdeal.sig (Elt Ideal)) (P : Par) (X : Fin 256 → Fin 197 → Fin 768 → ℝ) : Prop where
  /-- argument 0 -/
  hx : ∀ i n j, (show FVec Ideal S256x197x768 .f32 from V0 (Proc.devRef .tc main_arg0)) (ix3 i n j) = ((X i n j : ℝ) : EReal)
  /-- argument 1 -/
  hgi : ∀ j, (show FVec Ideal S768 .f32 from V0 (Proc.devRef .tc main_arg1)) (ix1 j) = ((P.gi j : ℝ) : EReal)
  /-- argument 2 -/
  hbi : ∀ j, (show FVec Ideal S768 .f32 from V0 (Proc.devRef .tc main_arg2)) (ix1 j) = P.bi j
  /-- argument 3 -/
  hs0 : ∀ k j, (show FVec Ideal S10x64 .f32 from V0 (Proc.devRef .tc main_arg3)) (ix2 k j) = ((P.s0 k j : ℝ) : EReal)
  /-- argument 4 -/
  hgs : ∀ j, (show FVec Ideal S64 .f32 from V0 (Proc.devRef .tc main_arg4)) (ix1 j) = ((P.gs j : ℝ) : EReal)
  /-- argument 5 -/
  hbs : ∀ j, (show FVec Ideal S64 .f32 from V0 (Proc.devRef .tc main_arg5)) (ix1 j) = P.bs j
  /-- argument 6 -/
  hWq : ∀ k j, (show FVec Ideal S64x64 .f32 from V0 (Proc.devRef .tc main_arg6)) (ix2 k j) = ((P.Wq k j : ℝ) : EReal)
  /-- argument 7 -/
  hWk : ∀ k j, (show FVec Ideal S768x64 .f32 from V0 (Proc.devRef .tc main_arg7)) (ix2 k j) = ((P.Wk k j : ℝ) : EReal)
  /-- argument 8 -/
  hWv : ∀ k j, (show FVec Ideal S768x64 .f32 from V0 (Proc.devRef .tc main_arg8)) (ix2 k j) = ((P.Wv k j : ℝ) : EReal)
  /-- argument 9 -/
  hWih : ∀ k j, (show FVec Ideal S192x64 .f32 from V0 (Proc.devRef .tc main_arg9)) (ix2 k j) = P.Wih k j
  /-- argument 10 -/
  hWhh : ∀ k j, (show FVec Ideal S192x64 .f32 from V0 (Proc.devRef .tc main_arg10)) (ix2 k j) = P.Whh k j
  /-- argument 11 -/
  hbih : ∀ j, (show FVec Ideal S192 .f32 from V0 (Proc.devRef .tc main_arg11)) (ix1 j) = P.bih j
  /-- argument 12 -/
  hbhh : ∀ j, (show FVec Ideal S192 .f32 from V0 (Proc.devRef .tc main_arg12)) (ix1 j) = P.bhh j
  /-- argument 13 -/
  hgm : ∀ j, (show FVec Ideal S64 .f32 from V0 (Proc.devRef .tc main_arg13)) (ix1 j) = ((P.gm j : ℝ) : EReal)
  /-- argument 14 -/
  hbm : ∀ j, (show FVec Ideal S64 .f32 from V0 (Proc.devRef .tc main_arg14)) (ix1 j) = ((P.bm j : ℝ) : EReal)
  /-- argument 15 -/
  hW1 : ∀ k j, (show FVec Ideal S64x128 .f32 from V0 (Proc.devRef .tc main_arg15)) (ix2 k j) = ((P.W1 k j : ℝ) : EReal)
  /-- argument 16 -/
  hb1 : ∀ j, (show FVec Ideal S128 .f32 from V0 (Proc.devRef .tc main_arg16)) (ix1 j) = ((P.b1 j : ℝ) : EReal)
  /-- argument 17 -/
  hW2 : ∀ k j, (show FVec Ideal S128x64 .f32 from V0 (Proc.devRef .tc main_arg17)) (ix2 k j) = ((P.W2 k j : ℝ) : EReal)
  /-- argument 18 -/
  hb2 : ∀ j, (show FVec Ideal S64 .f32 from V0 (Proc.devRef .tc main_arg18)) (ix1 j) = ((P.b2 j : ℝ) : EReal)

variable {V0} {P : Par} {X : Fin 256 → Fin 197 → Fin 768 → ℝ} (h : Reals V0 P X)
include h

/-- The keys are the model's. -/
theorem v18_real (i : Fin 256) (n : Fin 197) (j : Fin 64) : (res_main_v18 V0 : FVec Ideal S256x197x64 .f32) (ix3 i n j) = key P (X i n) j := by
  rw [v18_eq, v17_eq]
  exact proj_real (lnX_real (h.hx i n) h.hgi h.hbi) h.hWk j

/-- The values are the model's. -/
theorem v19_real (i : Fin 256) (n : Fin 197) (j : Fin 64) : (res_main_v19 V0 : FVec Ideal S256x197x64 .f32) (ix3 i n j) = value P (X i n) j := by
  rw [v19_eq, v17_eq]
  exact proj_real (lnX_real (h.hx i n) h.hgi h.hbi) h.hWv j

/-- A round of real slots is the model's. -/
theorem rnd_real {s : FVec Ideal S256x10x64 .f32} {i : Fin 256} {S : Fin 10 → Fin 64 → ℝ} (hs : ∀ t j, s (ix3 i t j) = ((S t j : ℝ) : EReal))
    (t : Fin 10) (d : Fin 64) : rnd V0 s (ix3 i t d) = ((step P (X i) S t d : ℝ) : EReal) :=
  round_real (v18_real h i) (v19_real h i) h.hgs h.hbs h.hWq h.hWih h.hWhh h.hbih h.hbhh h.hgm h.hbm h.hW1 h.hb1 h.hW2 h.hb2 hs t d

/-- The reference's slots are the model's. -/
theorem fin_real (i : Fin 256) (t : Fin 10) (d : Fin 64) : fin V0 (ix3 i t d) = ((slots P (X i) t d : ℝ) : EReal) := by
  rw [fin_round, v232_round, v126_round]
  refine rnd_real h (fun t d => rnd_real h (fun t d => rnd_real h (fun t d => ?_) t d) t d) t d
  have e : (res_main_v20 V0 : FVec Ideal S256x10x64 .f32) (ix3 i t d) = (show FVec Ideal S10x64 .f32 from V0 (Proc.devRef .tc main_arg3)) (ix2 t d) := by
    unfold res_main_v20
    pointwise
  rw [e]; exact h.hs0 t d

end Cert.ReferenceIdeal.RVal

end
-- ==== Proof.lean ====
module

public import proofs.«01_k».proof.Defs
public import proofs.«01_k».proof.Proof.KernelFrame.Frame
public import proofs.«01_k».proof.Proof.KernelIdealFrame.Value
public import proofs.«01_k».proof.Proof.Gen.ReferenceIdeal.Run
public import proofs.«01_k».proof.Proof.Gen.Pre_finite
public import proofs.«01_k».proof.Proof.Finite
public import proofs.«01_k».proof.Proof.KArr
public import proofs.«01_k».proof.Proof.RefRun
public import Idealize.ShloMosaic.Adequacy
public import Idealize.ShloMosaic.Init

@[expose] public section

noncomputable section

namespace Cert.Proof

open Idealize.ShloMosaic Idealize.SL.Sem Cert.Model
open Cert.KernelIdeal.KVal (slotsArr projArr)

/-- The frame of the reference: its run leaves the arguments unchanged and every counter at zero. -/
theorem frame_ref : Cert.quiescent_ReferenceIdeal (hReferenceIdeal := Cert.ReferenceIdeal.Gen.facts) := fun m g _ =>
  (θ_run _ _ _).mono (fun _ h => ⟨fun c => (h c).2.2, sem_eq_zero_of_no_sems (by decide) _⟩) (Cert.ReferenceIdeal.Value.run (F := Ideal) m g)

/-- The named constant is the mask's. -/
theorem preserves : Cert.preserves_Kernel_KernelIdeal :=
  IdealRules.named_const.statement Cert.KernelIdeal.κ "mask" .f32 0xF149F2CA#32 ⊥ rfl

/-- Of real arguments the reference's slots are the model's. -/
theorem ref_slots {V0 : Valuation Cert.ReferenceIdeal.τ Cert.ReferenceIdeal.sig (Elt Ideal)} {P : Par} {X : Fin 256 → Fin 197 → Fin 768 → ℝ}
    (h : Cert.ReferenceIdeal.RVal.Reals V0 P X) : Cert.ReferenceIdeal.RVal.fin V0 = slotsArr P X := by
  funext y
  rw [ValueIdx.eq_ix3 (n0 := 256) (n1 := 10) (n2 := 64) y]
  exact Cert.ReferenceIdeal.RVal.fin_real h _ _ _

/-- Of real arguments the reference's output is the model's slots' projection. -/
theorem ref_proj {V0 : Valuation Cert.ReferenceIdeal.τ Cert.ReferenceIdeal.sig (Elt Ideal)} {P : Par} {X : Fin 256 → Fin 197 → Fin 768 → ℝ}
    (h : Cert.ReferenceIdeal.RVal.Reals V0 P X) (w : FVec Ideal Cert.ReferenceIdeal.S64x768 .f32) (b : FVec Ideal Cert.ReferenceIdeal.S768 .f32) :
    Cert.ReferenceIdeal.RVal.proj2 (Cert.ReferenceIdeal.RVal.fin V0) w b = projArr P X w b := by
  funext y
  rw [ValueIdx.eq_ix3 (n0 := 256) (n1 := 10) (n2 := 768) y]
  refine (Cert.ReferenceIdeal.RVal.proj2_apply _ _ _ _ _ _).trans ?_
  rw [ref_slots h]
  rfl

/-- Where the arguments agree, the reference's are the kernel's reals. -/
theorem ref_reals {m : (ℓ : Loc Cert.KernelIdeal.nD Cert.KernelIdeal.τ Cert.KernelIdeal.sig) → Buf (Elt Ideal) ℓ}
    {V0 : Valuation Cert.ReferenceIdeal.τ Cert.ReferenceIdeal.sig (Elt Ideal)} {P : Par} {X : Fin 256 → Fin 197 → Fin 768 → ℝ} {c : Dev Cert.KernelIdeal.nD}
    (H : Cert.KernelIdeal.KVal.Reals m c P X)
    (e0 : (V0 (Proc.devRef .tc Cert.ReferenceIdeal.main_arg0) : FVec Ideal Cert.KernelIdeal.S256x197x768 .f32) = m (c, Proc.devRef .tc Cert.KernelIdeal.main_arg0))
    (e1 : (V0 (Proc.devRef .tc Cert.ReferenceIdeal.main_arg1) : FVec Ideal Cert.KernelIdeal.S768 .f32) = m (c, Proc.devRef .tc Cert.KernelIdeal.main_arg1))
    (e2 : (V0 (Proc.devRef .tc Cert.ReferenceIdeal.main_arg2) : FVec Ideal Cert.KernelIdeal.S768 .f32) = m (c, Proc.devRef .tc Cert.KernelIdeal.main_arg2))
    (e3 : (V0 (Proc.devRef .tc Cert.ReferenceIdeal.main_arg3) : FVec Ideal Cert.KernelIdeal.S10x64 .f32) = m (c, Proc.devRef .tc Cert.KernelIdeal.main_arg3))
    (e4 : (V0 (Proc.devRef .tc Cert.ReferenceIdeal.main_arg4) : FVec Ideal Cert.KernelIdeal.S64 .f32) = m (c, Proc.devRef .tc Cert.KernelIdeal.main_arg4))
    (e5 : (V0 (Proc.devRef .tc Cert.ReferenceIdeal.main_arg5) : FVec Ideal Cert.KernelIdeal.S64 .f32) = m (c, Proc.devRef .tc Cert.KernelIdeal.main_arg5))
    (e6 : (V0 (Proc.devRef .tc Cert.ReferenceIdeal.main_arg6) : FVec Ideal Cert.KernelIdeal.S64x64 .f32) = m (c, Proc.devRef .tc Cert.KernelIdeal.main_arg6))
    (e7 : (V0 (Proc.devRef .tc Cert.ReferenceIdeal.main_arg7) : FVec Ideal Cert.KernelIdeal.S768x64 .f32) = m (c, Proc.devRef .tc Cert.KernelIdeal.main_arg7))
    (e8 : (V0 (Proc.devRef .tc Cert.ReferenceIdeal.main_arg8) : FVec Ideal Cert.KernelIdeal.S768x64 .f32) = m (c, Proc.devRef .tc Cert.KernelIdeal.main_arg8))
    (e9 : (V0 (Proc.devRef .tc Cert.ReferenceIdeal.main_arg9) : FVec Ideal Cert.KernelIdeal.S192x64 .f32) = m (c, Proc.devRef .tc Cert.KernelIdeal.main_arg9))
    (e10 : (V0 (Proc.devRef .tc Cert.ReferenceIdeal.main_arg10) : FVec Ideal Cert.KernelIdeal.S192x64 .f32) = m (c, Proc.devRef .tc Cert.KernelIdeal.main_arg10))
    (e11 : (V0 (Proc.devRef .tc Cert.ReferenceIdeal.main_arg11) : FVec Ideal Cert.KernelIdeal.S192 .f32) = m (c, Proc.devRef .tc Cert.KernelIdeal.main_arg11))
    (e12 : (V0 (Proc.devRef .tc Cert.ReferenceIdeal.main_arg12) : FVec Ideal Cert.KernelIdeal.S192 .f32) = m (c, Proc.devRef .tc Cert.KernelIdeal.main_arg12))
    (e13 : (V0 (Proc.devRef .tc Cert.ReferenceIdeal.main_arg13) : FVec Ideal Cert.KernelIdeal.S64 .f32) = m (c, Proc.devRef .tc Cert.KernelIdeal.main_arg13))
    (e14 : (V0 (Proc.devRef .tc Cert.ReferenceIdeal.main_arg14) : FVec Ideal Cert.KernelIdeal.S64 .f32) = m (c, Proc.devRef .tc Cert.KernelIdeal.main_arg14))
    (e15 : (V0 (Proc.devRef .tc Cert.ReferenceIdeal.main_arg15) : FVec Ideal Cert.KernelIdeal.S64x128 .f32) = m (c, Proc.devRef .tc Cert.KernelIdeal.main_arg15))
    (e16 : (V0 (Proc.devRef .tc Cert.ReferenceIdeal.main_arg16) : FVec Ideal Cert.KernelIdeal.S128 .f32) = m (c, Proc.devRef .tc Cert.KernelIdeal.main_arg16))
    (e17 : (V0 (Proc.devRef .tc Cert.ReferenceIdeal.main_arg17) : FVec Ideal Cert.KernelIdeal.S128x64 .f32) = m (c, Proc.devRef .tc Cert.KernelIdeal.main_arg17))
    (e18 : (V0 (Proc.devRef .tc Cert.ReferenceIdeal.main_arg18) : FVec Ideal Cert.KernelIdeal.S64 .f32) = m (c, Proc.devRef .tc Cert.KernelIdeal.main_arg18))
    : Cert.ReferenceIdeal.RVal.Reals V0 P X where
  hx i n j := (congrFun e0 (ix3 i n j)).trans (H.hx i n j)
  hgi j := (congrFun e1 (ix1 j)).trans (H.hgi j)
  hbi j := (congrFun e2 (ix1 j)).trans (H.hbi j)
  hs0 k j := (congrFun e3 (ix2 k j)).trans (H.hs0 k j)
  hgs j := (congrFun e4 (ix1 j)).trans (H.hgs j)
  hbs j := (congrFun e5 (ix1 j)).trans (H.hbs j)
  hWq k j := (congrFun e6 (ix2 k j)).trans (H.hWq k j)
  hWk k j := (congrFun e7 (ix2 k j)).trans (H.hWk k j)
  hWv k j := (congrFun e8 (ix2 k j)).trans (H.hWv k j)
  hWih k j := (congrFun e9 (ix2 k j)).trans (H.hWih k j)
  hWhh k j := (congrFun e10 (ix2 k j)).trans (H.hWhh k j)
  hbih j := (congrFun e11 (ix1 j)).trans (H.hbih j)
  hbhh j := (congrFun e12 (ix1 j)).trans (H.hbhh j)
  hgm j := (congrFun e13 (ix1 j)).trans (H.hgm j)
  hbm j := (congrFun e14 (ix1 j)).trans (H.hbm j)
  hW1 k j := (congrFun e15 (ix2 k j)).trans (H.hW1 k j)
  hb1 j := (congrFun e16 (ix1 j)).trans (H.hb1 j)
  hW2 k j := (congrFun e17 (ix2 k j)).trans (H.hW2 k j)
  hb2 j := (congrFun e18 (ix1 j)).trans (H.hb2 j)

/-- The two programs end with the same results. -/
theorem results : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp ha
  have H := fun c => reals_of_pre m hp c
  have H' : ∀ c, Cert.ReferenceIdeal.RVal.Reals (StableHlo.launchContents m' c) (parOf m c) (featOf m c) := fun c => by
    obtain ⟨e0, e1, e2, e3, e4, e5, e6, e7, e8, e9, e10, e11, e12, e13, e14, e15, e16, e17, e18, e19, e20⟩ := ha c
    exact ref_reals (H c) e0 e1 e2 e3 e4 e5 e6 e7 e8 e9 e10 e11 e12 e13 e14 e15 e16 e17 e18
  refine ⟨fun c => projArr (parOf m c) (featOf m c) (m (c, Proc.devRef .tc Cert.KernelIdeal.main_arg19)) (m (c, Proc.devRef .tc Cert.KernelIdeal.main_arg20)),
    fun c => slotsArr (parOf m c) (featOf m c), ?_, ?_⟩
  · refine (θ_run _ _ _).mono (fun r h c => ?_) (Cert.KernelIdeal.Value.run_blocks (F := Ideal) m g)
    obtain ⟨h0, h1, hk⟩ := h c
    exact ⟨h0.trans (Cert.KernelIdeal.KVal.arr19 (H c)), h1.trans (Cert.KernelIdeal.KVal.arr20 (H c)), hk⟩
  · refine (θ_run _ _ _).mono (fun r h c => ?_) (Cert.ReferenceIdeal.Value.run (F := Ideal) m' g')
    obtain ⟨h0, h1, hk⟩ := h c
    have e19 := (ha c).2.2.2.2.2.2.2.2.2.2.2.2.2.2.2.2.2.2.2.1
    have e20 := (ha c).2.2.2.2.2.2.2.2.2.2.2.2.2.2.2.2.2.2.2.2
    refine ⟨h0.trans ?_, h1.trans (ref_slots (H' c)), hk⟩
    refine (ref_proj (H' c) _ _).trans ?_
    exact congrArg₂ (projArr (parOf m c) (featOf m c)) e19 e20

/-- Everything claimed. -/
theorem claim : Cert.Claim := ⟨Cert.Kernel.Gen.facts, Cert.KernelIdeal.Gen.facts, Cert.ReferenceIdeal.Gen.facts, Cert.Pre_finite.Gen.facts,
  fun m g _ => Cert.Kernel.Gen.frame m g, fun m g _ => Cert.KernelIdeal.Gen.frame m g, fun m g _ => Cert.KernelIdeal.Gen.frame m g,
  frame_ref, fun m g _ => frame_ref m g trivial, preserves, results⟩

end Cert.Proof

end
